-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layers [hPre_finite_layers : Cert.Pre_finite_layers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layers [hPre_finite_layers : Cert.Pre_finite_layers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_layers [hKernelIdeal : Cert.KernelIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_layers [hReferenceIdeal : Cert.ReferenceIdeal.Facts] [hPre_finite_layers : Cert.Pre_finite_layers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "taken" .f32 0x7149F2CA#32 ⊤
  ∧ IdealRules.named_const.Statement Cert.KernelIdeal.κ "inv_sqrt_hd" .f32 0x3E3504F3#32 (((Real.sqrt 32)⁻¹ : ℝ) : EReal)

def algebraic_KernelIdeal_ReferenceIdeal_pre_finite_layers [hKernelIdeal : Cert.KernelIdeal.Facts] [hReferenceIdeal : Cert.ReferenceIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_layers : Cert.Pre_finite_layers.Facts),
    quiescent_Kernel (hKernel := hKernel)
    ∧ quiescent_KernelIdeal (hKernelIdeal := hKernelIdeal)
    ∧ quiescent_KernelIdeal_pre_finite_layers (hKernelIdeal := hKernelIdeal) (hPre_finite_layers := hPre_finite_layers)
    ∧ quiescent_ReferenceIdeal (hReferenceIdeal := hReferenceIdeal)
    ∧ quiescent_ReferenceIdeal_pre_finite_layers (hReferenceIdeal := hReferenceIdeal) (hPre_finite_layers := hPre_finite_layers)
    ∧ preserves_Kernel_KernelIdeal
    ∧ algebraic_KernelIdeal_ReferenceIdeal_pre_finite_layers (hKernelIdeal := hKernelIdeal) (hReferenceIdeal := hReferenceIdeal) (hPre_finite_layers := hPre_finite_layers)
-- ==== Pre_finite_layers.lean ====
abbrev S16x128 : Shape := ⟨2, ![16, 128]⟩
abbrev S2048x3 : Shape := ⟨2, ![2048, 3]⟩
abbrev S2048 : Shape := ⟨1, ![2048]⟩
abbrev S16 : Shape := ⟨1, ![16]⟩
abbrev S128x3456 : Shape := ⟨2, ![128, 3456]⟩
abbrev S3456 : Shape := ⟨1, ![3456]⟩
abbrev S2x128x128 : Shape := ⟨3, ![2, 128, 128]⟩
abbrev S2x128 : Shape := ⟨2, ![2, 128]⟩
abbrev S2x50x128 : Shape := ⟨3, ![2, 50, 128]⟩
abbrev S128x10 : Shape := ⟨2, ![128, 10]⟩
abbrev S10 : Shape := ⟨1, ![10]⟩
abbrev S_ : Shape := ⟨0, ![]⟩

class Facts : Prop where
  bcast_S_S16x128 : S_.BroadcastsInDim S16x128 (![] : Fin 0 → Fin S16x128.rank)
  bcast_S_S2048x3 : S_.BroadcastsInDim S2048x3 (![] : Fin 0 → Fin S2048x3.rank)
  bcast_S_S128x3456 : S_.BroadcastsInDim S128x3456 (![] : Fin 0 → Fin S128x3456.rank)
  bcast_S_S3456 : S_.BroadcastsInDim S3456 (![] : Fin 0 → Fin S3456.rank)
  bcast_S_S2x128x128 : S_.BroadcastsInDim S2x128x128 (![] : Fin 0 → Fin S2x128x128.rank)
  bcast_S_S2x128 : S_.BroadcastsInDim S2x128 (![] : Fin 0 → Fin S2x128.rank)
  bcast_S_S2x50x128 : S_.BroadcastsInDim S2x50x128 (![] : Fin 0 → Fin S2x50x128.rank)

variable [Facts]

def fn_part2 {F : FTy → Type} [FloatOps F] (main_arg16 : FVec F S2x128x128 .f32) (main_arg17 : FVec F S2x128 .f32) (main_v2 : IVec S16x128 1) (main_v5 : IVec S2048x3 1) (main_v8 : IVec S128x3456 1) (main_v11 : IVec S3456 1) (main_v14 : IVec S2x128x128 1) (main_v17 : IVec S2x128 1) (main_v20 : IVec S2x128x128 1) (main_v23 : IVec S2x128 1) (main_v26 : IVec S2x50x128 1) (main_v29 : IVec S2x128 1) (main_v32 : IVec S2x128x128 1) (main_v35 : IVec S2x128 1) : IVec S16x128 1 × IVec S2048x3 1 × IVec S128x3456 1 × IVec S3456 1 × IVec S2x128x128 1 × IVec S2x128 1 × IVec S2x128x128 1 × IVec S2x128 1 × IVec S2x50x128 1 × IVec S2x128 1 × IVec S2x128x128 1 × IVec S2x128 1 × IVec S2x128x128 1 × IVec S2x128 1 :=
  let main_v36 : FVec F S2x128x128 .f32 := Host.absf main_arg16
  let main_cst_11 : FVec F S_ .f32 := constant S_ .f32 0x7F800000#32
  let main_v37 : FVec F S2x128x128 .f32 := broadcastInDim S2x128x128 ![] bcast_S_S2x128x128 main_cst_11
  let main_v38 : IVec S2x128x128 1 := cmpf .olt main_v36 main_v37
  let main_v39 : FVec F S2x128 .f32 := Host.absf main_arg17
  let main_cst_12 : FVec F S_ .f32 := constant S_ .f32 0x7F800000#32
  let main_v40 : FVec F S2x128 .f32 := broadcastInDim S2x128 ![] bcast_S_S2x128 main_cst_12
  let main_v41 : IVec S2x128 1 := cmpf .olt main_v39 main_v40
  (main_v2, main_v5, main_v8, main_v11, main_v14, main_v17, main_v20, main_v23, main_v26, main_v29, main_v32, main_v35, main_v38, main_v41)

def fn_part1 {F : FTy → Type} [FloatOps F] (main_arg10 : FVec F S2x128x128 .f32) (main_arg11 : FVec F S2x128 .f32) (main_arg12 : FVec F S2x50x128 .f32) (main_arg13 : FVec F S2x128 .f32) (main_arg14 : FVec F S2x128x128 .f32) (main_arg15 : FVec F S2x128 .f32) (main_arg16 : FVec F S2x128x128 .f32) (main_arg17 : FVec F S2x128 .f32) (main_v2 : IVec S16x128 1) (main_v5 : IVec S2048x3 1) (main_v8 : IVec S128x3456 1) (main_v11 : IVec S3456 1) (main_v14 : IVec S2x128x128 1) (main_v17 : IVec S2x128 1) : IVec S16x128 1 × IVec S2048x3 1 × IVec S128x3456 1 × IVec S3456 1 × IVec S2x128x128 1 × IVec S2x128 1 × IVec S2x128x128 1 × IVec S2x128 1 × IVec S2x50x128 1 × IVec S2x128 1 × IVec S2x128x128 1 × IVec S2x128 1 × IVec S2x128x128 1 × IVec S2x128 1 :=
  let main_v18 : FVec F S2x128x128 .f32 := Host.absf main_arg10
  let main_cst_5 : FVec F S_ .f32 := constant S_ .f32 0x7F800000#32
  let main_v19 : FVec F S2x128x128 .f32 := broadcastInDim S2x128x128 ![] bcast_S_S2x128x128 main_cst_5
  let main_v20 : IVec S2x128x128 1 := cmpf .olt main_v18 main_v19
  let main_v21 : FVec F S2x128 .f32 := Host.absf main_arg11
  let main_cst_6 : FVec F S_ .f32 := constant S_ .f32 0x7F800000#32
  let main_v22 : FVec F S2x128 .f32 := broadcastInDim S2x128 ![] bcast_S_S2x128 main_cst_6
  let main_v23 : IVec S2x128 1 := cmpf .olt main_v21 main_v22
  let main_v24 : FVec F S2x50x128 .f32 := Host.absf main_arg12
  let main_cst_7 : FVec F S_ .f32 := constant S_ .f32 0x7F800000#32
  let main_v25 : FVec F S2x50x128 .f32 := broadcastInDim S2x50x128 ![] bcast_S_S2x50x128 main_cst_7
  let main_v26 : IVec S2x50x128 1 := cmpf .olt main_v24 main_v25
  let main_v27 : FVec F S2x128 .f32 := Host.absf main_arg13
  let main_cst_8 : FVec F S_ .f32 := constant S_ .f32 0x7F800000#32
  let main_v28 : FVec F S2x128 .f32 := broadcastInDim S2x128 ![] bcast_S_S2x128 main_cst_8
  let main_v29 : IVec S2x128 1 := cmpf .olt main_v27 main_v28
  let main_v30 : FVec F S2x128x128 .f32 := Host.absf main_arg14
  let main_cst_9 : FVec F S_ .f32 := constant S_ .f32 0x7F800000#32
  let main_v31 : FVec F S2x128x128 .f32 := broadcastInDim S2x128x128 ![] bcast_S_S2x128x128 main_cst_9
  let main_v32 : IVec S2x128x128 1 := cmpf .olt main_v30 main_v31
  let main_v33 : FVec F S2x128 .f32 := Host.absf main_arg15
  let main_cst_10 : FVec F S_ .f32 := constant S_ .f32 0x7F800000#32
  let main_v34 : FVec F S2x128 .f32 := broadcastInDim S2x128 ![] bcast_S_S2x128 main_cst_10
  let main_v35 : IVec S2x128 1 := cmpf .olt main_v33 main_v34
  fn_part2 (F := F) main_arg16 main_arg17 main_v2 main_v5 main_v8 main_v11 main_v14 main_v17 main_v20 main_v23 main_v26 main_v29 main_v32 main_v35

def fn {F : FTy → Type} [FloatOps F] (main_arg0 : FVec F S16x128 .f32) (main_arg1 : FVec F S2048x3 .f32) (main_arg2 : IVec S2048 32) (main_arg3 : IVec S16 32) (main_arg4 : FVec F S128x3456 .f32) (main_arg5 : FVec F S3456 .f32) (main_arg6 : FVec F S2x128x128 .f32) (main_arg7 : FVec F S2x128 .f32) (main_arg8 : FVec F S2x128x128 .f32) (main_arg9 : FVec F S2x128 .f32) (main_arg10 : FVec F S2x128x128 .f32) (main_arg11 : FVec F S2x128 .f32) (main_arg12 : FVec F S2x50x128 .f32) (main_arg13 : FVec F S2x128 .f32) (main_arg14 : FVec F S2x128x128 .f32) (main_arg15 : FVec F S2x128 .f32) (main_arg16 : FVec F S2x128x128 .f32) (main_arg17 : FVec F S2x128 .f32) (main_arg18 : FVec F S128x10 .f32) (main_arg19 : FVec F S10 .f32) : IVec S16x128 1 × IVec S2048x3 1 × IVec S128x3456 1 × IVec S3456 1 × IVec S2x128x128 1 × IVec S2x128 1 × IVec S2x128x128 1 × IVec S2x128 1 × IVec S2x50x128 1 × IVec S2x128 1 × IVec S2x128x128 1 × IVec S2x128 1 × IVec S2x128x128 1 × IVec S2x128 1 :=
  let main_v0 : FVec F S16x128 .f32 := Host.absf main_arg0
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_v3 : FVec F S2048x3 .f32 := Host.absf main_arg1
  let main_cst_0 : FVec F S_ .f32 := constant S_ .f32 0x7F800000#32
  let main_v4 : FVec F S2048x3 .f32 := broadcastInDim S2048x3 ![] bcast_S_S2048x3 main_cst_0
  let main_v5 : IVec S2048x3 1 := cmpf .olt main_v3 main_v4
  let main_v6 : FVec F S128x3456 .f32 := Host.absf main_arg4
  let main_cst_1 : FVec F S_ .f32 := constant S_ .f32 0x7F800000#32
  let main_v7 : FVec F S128x3456 .f32 := broadcastInDim S128x3456 ![] bcast_S_S128x3456 main_cst_1
  let main_v8 : IVec S128x3456 1 := cmpf .olt main_v6 main_v7
  let main_v9 : FVec F S3456 .f32 := Host.absf main_arg5
  let main_cst_2 : FVec F S_ .f32 := constant S_ .f32 0x7F800000#32
  let main_v10 : FVec F S3456 .f32 := broadcastInDim S3456 ![] bcast_S_S3456 main_cst_2
  let main_v11 : IVec S3456 1 := cmpf .olt main_v9 main_v10
  let main_v12 : FVec F S2x128x128 .f32 := Host.absf main_arg6
  let main_cst_3 : FVec F S_ .f32 := constant S_ .f32 0x7F800000#32
  let main_v13 : FVec F S2x128x128 .f32 := broadcastInDim S2x128x128 ![] bcast_S_S2x128x128 main_cst_3
  let main_v14 : IVec S2x128x128 1 := cmpf .olt main_v12 main_v13
  let main_v15 : FVec F S2x128 .f32 := Host.absf main_arg7
  let main_cst_4 : FVec F S_ .f32 := constant S_ .f32 0x7F800000#32
  let main_v16 : FVec F S2x128 .f32 := broadcastInDim S2x128 ![] bcast_S_S2x128 main_cst_4
  let main_v17 : IVec S2x128 1 := cmpf .olt main_v15 main_v16
  fn_part1 (F := F) main_arg10 main_arg11 main_arg12 main_arg13 main_arg14 main_arg15 main_arg16 main_arg17 main_v2 main_v5 main_v8 main_v11 main_v14 main_v17
-- ==== Kernel.lean ====
abbrev S16x128 : Shape := ⟨2, ![16, 128]⟩
abbrev S2048x3 : Shape := ⟨2, ![2048, 3]⟩
abbrev S2048 : Shape := ⟨1, ![2048]⟩
abbrev S16 : Shape := ⟨1, ![16]⟩
abbrev S128x3456 : Shape := ⟨2, ![128, 3456]⟩
abbrev S3456 : Shape := ⟨1, ![3456]⟩
abbrev S2x128x128 : Shape := ⟨3, ![2, 128, 128]⟩
abbrev S2x128 : Shape := ⟨2, ![2, 128]⟩
abbrev S2x50x128 : Shape := ⟨3, ![2, 50, 128]⟩
abbrev S128x10 : Shape := ⟨2, ![128, 10]⟩
abbrev S10 : Shape := ⟨1, ![10]⟩
abbrev S27x3 : Shape := ⟨2, ![27, 3]⟩
abbrev S128x128x27 : Shape := ⟨3, ![128, 128, 27]⟩
abbrev S128x27x128 : Shape := ⟨3, ![128, 27, 128]⟩
abbrev S128x27 : Shape := ⟨2, ![128, 27]⟩
abbrev S27x128 : Shape := ⟨2, ![27, 128]⟩
abbrev S1x3456 : Shape := ⟨2, ![1, 3456]⟩
abbrev S2x1x128 : Shape := ⟨3, ![2, 1, 128]⟩
abbrev S1x10 : Shape := ⟨2, ![1, 10]⟩
abbrev S_ : Shape := ⟨0, ![]⟩
abbrev S49 : Shape := ⟨1, ![49]⟩
abbrev S1 : Shape := ⟨1, ![1]⟩
abbrev S50 : Shape := ⟨1, ![50]⟩
abbrev S1x1 : Shape := ⟨2, ![1, 1]⟩
abbrev S50x1 : Shape := ⟨2, ![50, 1]⟩
abbrev S16x1x128 : Shape := ⟨3, ![16, 1, 128]⟩
abbrev S2048x13 : Shape := ⟨2, ![2048, 13]⟩
abbrev S256x3 : Shape := ⟨2, ![256, 3]⟩
abbrev S256x13 : Shape := ⟨2, ![256, 13]⟩
abbrev S1x1x128 : Shape := ⟨3, ![1, 1, 128]⟩
abbrev S1x128 : Shape := ⟨2, ![1, 128]⟩
abbrev S128x3 : Shape := ⟨2, ![128, 3]⟩
abbrev S3x27 : Shape := ⟨2, ![3, 27]⟩
abbrev S128x1 : Shape := ⟨2, ![128, 1]⟩
abbrev S1x27 : Shape := ⟨2, ![1, 27]⟩
abbrev S128 : Shape := ⟨1, ![128]⟩
abbrev S128x128 : Shape := ⟨2, ![128, 128]⟩
abbrev S50x1x1 : Shape := ⟨3, ![50, 1, 1]⟩
abbrev S1x1x1 : Shape := ⟨3, ![1, 1, 1]⟩
abbrev S3x128 : Shape := ⟨2, ![3, 128]⟩
abbrev S1x128x128 : Shape := ⟨3, ![1, 128, 128]⟩
abbrev S50x128x128 : Shape := ⟨3, ![50, 128, 128]⟩
abbrev S1x50x128 : Shape := ⟨3, ![1, 50, 128]⟩
abbrev S50x128 : Shape := ⟨2, ![50, 128]⟩
abbrev S128x32 : Shape := ⟨2, ![128, 32]⟩
abbrev S50x32 : Shape := ⟨2, ![50, 32]⟩
abbrev S1x32 : Shape := ⟨2, ![1, 32]⟩
abbrev S50x1x128 : Shape := ⟨3, ![50, 1, 128]⟩
abbrev S128x125 : Shape := ⟨2, ![128, 125]⟩
abbrev S128x13 : Shape := ⟨2, ![128, 13]⟩

abbrev nBuf : Space → Nat
  | .hbm => 69
  | .vmem => 25
  | .smem => 0
  | _ => 0

abbrev bufTy : (tb : Table) → Fin (tcTables nBuf tb) → BufTy
  | .hbm, ⟨0, _⟩ => ⟨S16x128, .f32⟩
  | .hbm, ⟨1, _⟩ => ⟨S2048x3, .f32⟩
  | .hbm, ⟨2, _⟩ => ⟨S2048, .i32⟩
  | .hbm, ⟨3, _⟩ => ⟨S16, .i32⟩
  | .hbm, ⟨4, _⟩ => ⟨S128x3456, .f32⟩
  | .hbm, ⟨5, _⟩ => ⟨S3456, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S2x50x128, .f32⟩
  | .hbm, ⟨13, _⟩ => ⟨S2x128, .f32⟩
  | .hbm, ⟨14, _⟩ => ⟨S2x128x128, .f32⟩
  | .hbm, ⟨15, _⟩ => ⟨S2x128, .f32⟩
  | .hbm, ⟨16, _⟩ => ⟨S2x128x128, .f32⟩
  | .hbm, ⟨17, _⟩ => ⟨S2x128, .f32⟩
  | .hbm, ⟨18, _⟩ => ⟨S128x10, .f32⟩
  | .hbm, ⟨19, _⟩ => ⟨S10, .f32⟩
  | .hbm, ⟨20, _⟩ => ⟨S27x3, .f32⟩
  | .hbm, ⟨21, _⟩ => ⟨S128x128x27, .f32⟩
  | .hbm, ⟨22, _⟩ => ⟨S128x27x128, .f32⟩
  | .hbm, ⟨23, _⟩ => ⟨S128x3456, .f32⟩
  | .hbm, ⟨24, _⟩ => ⟨S128x27, .f32⟩
  | .hbm, ⟨25, _⟩ => ⟨S27x128, .f32⟩
  | .hbm, ⟨26, _⟩ => ⟨S1x3456, .f32⟩
  | .hbm, ⟨27, _⟩ => ⟨S2x1x128, .f32⟩
  | .hbm, ⟨28, _⟩ => ⟨S2x1x128, .f32⟩
  | .hbm, ⟨29, _⟩ => ⟨S2x1x128, .f32⟩
  | .hbm, ⟨30, _⟩ => ⟨S2x1x128, .f32⟩
  | .hbm, ⟨31, _⟩ => ⟨S2x1x128, .f32⟩
  | .hbm, ⟨32, _⟩ => ⟨S2x1x128, .f32⟩
  | .hbm, ⟨33, _⟩ => ⟨S1x10, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S49, .f32⟩
  | .hbm, ⟨42, _⟩ => ⟨S_, .f32⟩
  | .hbm, ⟨43, _⟩ => ⟨S49, .f32⟩
  | .hbm, ⟨44, _⟩ => ⟨S49, .f32⟩
  | .hbm, ⟨45, _⟩ => ⟨S1, .f32⟩
  | .hbm, ⟨46, _⟩ => ⟨S_, .f32⟩
  | .hbm, ⟨47, _⟩ => ⟨S49, .f32⟩
  | .hbm, ⟨48, _⟩ => ⟨S49, .f32⟩
  | .hbm, ⟨49, _⟩ => ⟨S49, .f32⟩
  | .hbm, ⟨50, _⟩ => ⟨S49, .f32⟩
  | .hbm, ⟨51, _⟩ => ⟨S1, .f32⟩
  | .hbm, ⟨52, _⟩ => ⟨S49, .f32⟩
  | .hbm, ⟨53, _⟩ => ⟨S49, .f32⟩
  | .hbm, ⟨54, _⟩ => ⟨S49, .f32⟩
  | .hbm, ⟨55, _⟩ => ⟨S1, .f32⟩
  | .hbm, ⟨56, _⟩ => ⟨S50, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x1, .f32⟩
  | .hbm, ⟨66, _⟩ => ⟨S50x1, .f32⟩
  | .hbm, ⟨67, _⟩ => ⟨S16x1x128, .f32⟩
  | .hbm, ⟨68, _⟩ => ⟨S2048x13, .f32⟩
  | .local _ .vmem, ⟨0, _⟩ => ⟨S2x1x128, .f32⟩
  | .local _ .vmem, ⟨1, _⟩ => ⟨S2x1x128, .f32⟩
  | .local _ .vmem, ⟨2, _⟩ => ⟨S256x3, .f32⟩
  | .local _ .vmem, ⟨3, _⟩ => ⟨S256x3, .f32⟩
  | .local _ .vmem, ⟨4, _⟩ => ⟨S27x3, .f32⟩
  | .local _ .vmem, ⟨5, _⟩ => ⟨S50x1, .f32⟩
  | .local _ .vmem, ⟨6, _⟩ => ⟨S1x1, .f32⟩
  | .local _ .vmem, ⟨7, _⟩ => ⟨S128x3456, .f32⟩
  | .local _ .vmem, ⟨8, _⟩ => ⟨S1x3456, .f32⟩
  | .local _ .vmem, ⟨9, _⟩ => ⟨S2x128x128, .f32⟩
  | .local _ .vmem, ⟨10, _⟩ => ⟨S2x1x128, .f32⟩
  | .local _ .vmem, ⟨11, _⟩ => ⟨S2x128x128, .f32⟩
  | .local _ .vmem, ⟨12, _⟩ => ⟨S2x1x128, .f32⟩
  | .local _ .vmem, ⟨13, _⟩ => ⟨S2x128x128, .f32⟩
  | .local _ .vmem, ⟨14, _⟩ => ⟨S2x1x128, .f32⟩
  | .local _ .vmem, ⟨15, _⟩ => ⟨S2x50x128, .f32⟩
  | .local _ .vmem, ⟨16, _⟩ => ⟨S2x1x128, .f32⟩
  | .local _ .vmem, ⟨17, _⟩ => ⟨S2x128x128, .f32⟩
  | .local _ .vmem, ⟨18, _⟩ => ⟨S2x1x128, .f32⟩
  | .local _ .vmem, ⟨19, _⟩ => ⟨S2x128x128, .f32⟩
  | .local _ .vmem, ⟨20, _⟩ => ⟨S2x1x128, .f32⟩
  | .local _ .vmem, ⟨21, _⟩ => ⟨S128x10, .f32⟩
  | .local _ .vmem, ⟨22, _⟩ => ⟨S1x10, .f32⟩
  | .local _ .vmem, ⟨23, _⟩ => ⟨S256x13, .f32⟩
  | .local _ .vmem, ⟨24, _⟩ => ⟨S256x13, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_0 : Ref sig .tc := ⟨.hbm, 34, rfl⟩
abbrev main_call0_cst_1 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_cst : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_cst_0 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_cst_1 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_v16 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_call0_v17 : Ref sig .tc := ⟨.hbm, 60, rfl⟩
abbrev main_call0_v18 : Ref sig .tc := ⟨.hbm, 61, rfl⟩
abbrev main_call0_v19 : Ref sig .tc := ⟨.hbm, 62, rfl⟩
abbrev main_call0_cst_2 : Ref sig .tc := ⟨.hbm, 63, rfl⟩
abbrev main_call0_v20 : Ref sig .tc := ⟨.hbm, 64, rfl⟩
abbrev main_call0_v21 : Ref sig .tc := ⟨.hbm, 65, rfl⟩
abbrev main_call0_v22 : Ref sig .tc := ⟨.hbm, 66, rfl⟩
abbrev main_call0_v23 : Ref sig .tc := ⟨.hbm, 67, rfl⟩
abbrev main_v0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x50x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x10 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x13 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "inv_sqrt_hd" => some (((Real.sqrt 32)⁻¹ : ℝ) : EReal)
  | "taken" => some ⊤
  | _ => none
-- ==== ReferenceIdeal.lean ====
abbrev S16x128 : Shape := ⟨2, ![16, 128]⟩
abbrev S2048x3 : Shape := ⟨2, ![2048, 3]⟩
abbrev S2048 : Shape := ⟨1, ![2048]⟩
abbrev S16 : Shape := ⟨1, ![16]⟩
abbrev S128x3456 : Shape := ⟨2, ![128, 3456]⟩
abbrev S3456 : Shape := ⟨1, ![3456]⟩
abbrev S2x128x128 : Shape := ⟨3, ![2, 128, 128]⟩
abbrev S2x128 : Shape := ⟨2, ![2, 128]⟩
abbrev S2x50x128 : Shape := ⟨3, ![2, 50, 128]⟩
abbrev S128x10 : Shape := ⟨2, ![128, 10]⟩
abbrev S10 : Shape := ⟨1, ![10]⟩
abbrev S27x3 : Shape := ⟨2, ![27, 3]⟩
abbrev S16x3456 : Shape := ⟨2, ![16, 3456]⟩
abbrev S1x3456 : Shape := ⟨2, ![1, 3456]⟩
abbrev S16x128x27 : Shape := ⟨3, ![16, 128, 27]⟩
abbrev S16x27x128 : Shape := ⟨3, ![16, 27, 128]⟩
abbrev S_ : Shape := ⟨0, ![]⟩
abbrev S16x128x3 : Shape := ⟨3, ![16, 128, 3]⟩
abbrev S16x128x1x3 : Shape := ⟨4, ![16, 128, 1, 3]⟩
abbrev S1x1x27x3 : Shape := ⟨4, ![1, 1, 27, 3]⟩
abbrev S16x128x27x3 : Shape := ⟨4, ![16, 128, 27, 3]⟩
abbrev S16x128x1 : Shape := ⟨3, ![16, 128, 1]⟩
abbrev S16x1x1 : Shape := ⟨3, ![16, 1, 1]⟩
abbrev S16x128x3x1 : Shape := ⟨4, ![16, 128, 3, 1]⟩
abbrev S16x128x3x2 : Shape := ⟨4, ![16, 128, 3, 2]⟩
abbrev S16x128x3x128 : Shape := ⟨4, ![16, 128, 3, 128]⟩
abbrev S16x128x128 : Shape := ⟨3, ![16, 128, 128]⟩
abbrev S2048x128 : Shape := ⟨2, ![2048, 128]⟩
abbrev S49 : Shape := ⟨1, ![49]⟩
abbrev S1 : Shape := ⟨1, ![1]⟩
abbrev S50 : Shape := ⟨1, ![50]⟩
abbrev S128x128 : Shape := ⟨2, ![128, 128]⟩
abbrev S16x1x128x3 : Shape := ⟨4, ![16, 1, 128, 3]⟩
abbrev S16x128x128x3 : Shape := ⟨4, ![16, 128, 128, 3]⟩
abbrev S1x128x128 : Shape := ⟨3, ![1, 128, 128]⟩
abbrev S16x128x128x1 : Shape := ⟨4, ![16, 128, 128, 1]⟩
abbrev S1x1x1x50 : Shape := ⟨4, ![1, 1, 1, 50]⟩
abbrev S16x128x128x50 : Shape := ⟨4, ![16, 128, 128, 50]⟩
abbrev S1x50x128 : Shape := ⟨3, ![1, 50, 128]⟩
abbrev S50x128 : Shape := ⟨2, ![50, 128]⟩
abbrev S16x128x128x128 : Shape := ⟨4, ![16, 128, 128, 128]⟩
abbrev S1x128 : Shape := ⟨2, ![1, 128]⟩
abbrev S128 : Shape := ⟨1, ![128]⟩
abbrev S1x1x1x128 : Shape := ⟨4, ![1, 1, 1, 128]⟩
abbrev S16x128x128x4x32 : Shape := ⟨5, ![16, 128, 128, 4, 32]⟩
abbrev S1x1x128 : Shape := ⟨3, ![1, 1, 128]⟩
abbrev S16x128x4x32 : Shape := ⟨4, ![16, 128, 4, 32]⟩
abbrev S16x4x128x128 : Shape := ⟨4, ![16, 4, 128, 128]⟩
abbrev S16x128x128x4 : Shape := ⟨4, ![16, 128, 128, 4]⟩
abbrev S16x128x4x128 : Shape := ⟨4, ![16, 128, 4, 128]⟩
abbrev S16x128x4 : Shape := ⟨3, ![16, 128, 4]⟩
abbrev S16x128x1x4 : Shape := ⟨4, ![16, 128, 1, 4]⟩
abbrev S16x4x32x128 : Shape := ⟨4, ![16, 4, 32, 128]⟩
abbrev S16x128x125 : Shape := ⟨3, ![16, 128, 125]⟩
abbrev S2048x10 : Shape := ⟨2, ![2048, 10]⟩
abbrev S1x10 : Shape := ⟨2, ![1, 10]⟩
abbrev S2048x13 : Shape := ⟨2, ![2048, 13]⟩

abbrev nBuf : Space → Nat
  | .hbm => 446
  | .vmem => 0
  | .smem => 0
  | _ => 0

abbrev hbmTy0_0 (i : Nat) : BufTy := match i % 128 with
  | 0 => ⟨S16x128, .f32⟩
  | 1 => ⟨S2048x3, .f32⟩
  | 2 => ⟨S2048, .i32⟩
  | 3 => ⟨S16, .i32⟩
  | 4 => ⟨S128x3456, .f32⟩
  | 5 => ⟨S3456, .f32⟩
  | 6 => ⟨S2x128x128, .f32⟩
  | 7 => ⟨S2x128, .f32⟩
  | 8 => ⟨S2x128x128, .f32⟩
  | 9 => ⟨S2x128, .f32⟩
  | 10 => ⟨S2x128x128, .f32⟩
  | 11 => ⟨S2x128, .f32⟩
  | 12 => ⟨S2x50x128, .f32⟩
  | 13 => ⟨S2x128, .f32⟩
  | 14 => ⟨S2x128x128, .f32⟩
  | 15 => ⟨S2x128, .f32⟩
  | 16 => ⟨S2x128x128, .f32⟩
  | 17 => ⟨S2x128, .f32⟩
  | 18 => ⟨S128x10, .f32⟩
  | 19 => ⟨S10, .f32⟩
  | 20 => ⟨S27x3, .f32⟩
  | 21 => ⟨S16x3456, .f32⟩
  | 22 => ⟨S1x3456, .f32⟩
  | 23 => ⟨S16x3456, .f32⟩
  | 24 => ⟨S16x3456, .f32⟩
  | 25 => ⟨S16x128x27, .f32⟩
  | 26 => ⟨S16x27x128, .f32⟩
  | 27 => ⟨S16x27x128, .f32⟩
  | 28 => ⟨S16x27x128, .f32⟩
  | 29 => ⟨S_, .f32⟩
  | 30 => ⟨S16x27x128, .f32⟩
  | 31 => ⟨S16x27x128, .f32⟩
  | 32 => ⟨S16x27x128, .f32⟩
  | 33 => ⟨S_, .f32⟩
  | 34 => ⟨S16x27x128, .f32⟩
  | 35 => ⟨S16x27x128, .f32⟩
  | 36 => ⟨S16x27x128, .f32⟩
  | 37 => ⟨S_, .f32⟩
  | 38 => ⟨S16x27x128, .f32⟩
  | 39 => ⟨S16x27x128, .f32⟩
  | 40 => ⟨S_, .f32⟩
  | 41 => ⟨S16x27x128, .f32⟩
  | 42 => ⟨S16x27x128, .f32⟩
  | 43 => ⟨S16x27x128, .f32⟩
  | 44 => ⟨S16x128x3, .f32⟩
  | 45 => ⟨S16x128x1x3, .f32⟩
  | 46 => ⟨S1x1x27x3, .f32⟩
  | 47 => ⟨S16x128x27x3, .f32⟩
  | 48 => ⟨S16x128x27x3, .f32⟩
  | 49 => ⟨S16x128x27x3, .f32⟩
  | 50 => ⟨S16x128x27x3, .f32⟩
  | 51 => ⟨S_, .f32⟩
  | 52 => ⟨S16x128x27, .f32⟩
  | 53 => ⟨S16x128x27, .f32⟩
  | 54 => ⟨S16x128x3, .f32⟩
  | 55 => ⟨S16x128x3, .i32⟩
  | 56 => ⟨S16x128x3, .f32⟩
  | 57 => ⟨S_, .f32⟩
  | 58 => ⟨S16x128x3, .f32⟩
  | 59 => ⟨S16x128x3, .f32⟩
  | 60 => ⟨S_, .f32⟩
  | 61 => ⟨S16x128x3, .f32⟩
  | 62 => ⟨S16x128x3, .f32⟩
  | 63 => ⟨S_, .f32⟩
  | 64 => ⟨S16x128, .f32⟩
  | 65 => ⟨S16x128x1, .f32⟩
  | 66 => ⟨S16x128x3, .f32⟩
  | 67 => ⟨S16x128x3, .f32⟩
  | 68 => ⟨S16, .i32⟩
  | 69 => ⟨S16x1x1, .i32⟩
  | 70 => ⟨S_, .i32⟩
  | 71 => ⟨S16x1x1, .i32⟩
  | 72 => ⟨S16x1x1, .i1⟩
  | 73 => ⟨S_, .i32⟩
  | 74 => ⟨S16x1x1, .i32⟩
  | 75 => ⟨S16x1x1, .i32⟩
  | 76 => ⟨S16x1x1, .i32⟩
  | 77 => ⟨S_, .i32⟩
  | 78 => ⟨S16x128x3, .i32⟩
  | 79 => ⟨S16x128x3, .i1⟩
  | 80 => ⟨S_, .i32⟩
  | 81 => ⟨S16x128x3, .i32⟩
  | 82 => ⟨S16x128x3, .i32⟩
  | 83 => ⟨S16x128x3, .i32⟩
  | 84 => ⟨S16x128x3, .i32⟩
  | 85 => ⟨S16x128x3x1, .i32⟩
  | 86 => ⟨S16x128x3x1, .i32⟩
  | 87 => ⟨S16x128x3x2, .i32⟩
  | 88 => ⟨S16x128x3x128, .f32⟩
  | 89 => ⟨S16x128x3x1, .f32⟩
  | 90 => ⟨S16x128x3x128, .f32⟩
  | 91 => ⟨S16x128x3x128, .f32⟩
  | 92 => ⟨S_, .f32⟩
  | 93 => ⟨S16x128x128, .f32⟩
  | 94 => ⟨S2048x128, .f32⟩
  | 95 => ⟨S2048x128, .f32⟩
  | 96 => ⟨S2048x128, .f32⟩
  | 97 => ⟨S_, .f32⟩
  | 98 => ⟨S2048x128, .f32⟩
  | 99 => ⟨S2048x128, .f32⟩
  | 100 => ⟨S2048x128, .f32⟩
  | 101 => ⟨S_, .f32⟩
  | 102 => ⟨S2048x128, .f32⟩
  | 103 => ⟨S2048x128, .f32⟩
  | 104 => ⟨S2048x128, .f32⟩
  | 105 => ⟨S_, .f32⟩
  | 106 => ⟨S2048x128, .f32⟩
  | 107 => ⟨S2048x128, .f32⟩
  | 108 => ⟨S_, .f32⟩
  | 109 => ⟨S2048x128, .f32⟩
  | 110 => ⟨S2048x128, .f32⟩
  | 111 => ⟨S2048x128, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S49, .f32⟩
  | 120 => ⟨S_, .f32⟩
  | 121 => ⟨S49, .f32⟩
  | 122 => ⟨S49, .f32⟩
  | 123 => ⟨S1, .f32⟩
  | 124 => ⟨S_, .f32⟩
  | 125 => ⟨S49, .f32⟩
  | 126 => ⟨S49, .f32⟩
  | 127 => ⟨S49, .f32⟩
  | _ => ⟨S16x128, .f32⟩

abbrev hbmTy0_1 (i : Nat) : BufTy := match i % 128 with
  | 0 => ⟨S49, .f32⟩
  | 1 => ⟨S1, .f32⟩
  | 2 => ⟨S49, .f32⟩
  | 3 => ⟨S49, .f32⟩
  | 4 => ⟨S49, .f32⟩
  | 5 => ⟨S1, .f32⟩
  | 6 => ⟨S50, .f32⟩
  | 7 => ⟨S1, .f32⟩
  | 8 => ⟨S_, .f32⟩
  | 9 => ⟨S1, .f32⟩
  | 10 => ⟨S_, .f32⟩
  | 11 => ⟨S_, .f32⟩
  | 12 => ⟨S_, .f32⟩
  | 13 => ⟨S_, .f32⟩
  | 14 => ⟨S_, .f32⟩
  | 15 => ⟨S128x128, .i32⟩
  | 16 => ⟨S128x128, .i32⟩
  | 17 => ⟨S_, .i32⟩
  | 18 => ⟨S128x128, .i32⟩
  | 19 => ⟨S128x128, .i32⟩
  | 20 => ⟨S128x128, .i1⟩
  | 21 => ⟨S16x128x3, .f32⟩
  | 22 => ⟨S16x128x1x3, .f32⟩
  | 23 => ⟨S16x1x128x3, .f32⟩
  | 24 => ⟨S16x128x128x3, .f32⟩
  | 25 => ⟨S16x128x128x3, .f32⟩
  | 26 => ⟨S16x128x128x3, .f32⟩
  | 27 => ⟨S16x128x128x3, .f32⟩
  | 28 => ⟨S_, .f32⟩
  | 29 => ⟨S16x128x128, .f32⟩
  | 30 => ⟨S_, .f32⟩
  | 31 => ⟨S16x128x128, .f32⟩
  | 32 => ⟨S16x128x128, .f32⟩
  | 33 => ⟨S16x128x128, .f32⟩
  | 34 => ⟨S_, .f32⟩
  | 35 => ⟨S16x128x128, .f32⟩
  | 36 => ⟨S16x128x128, .i1⟩
  | 37 => ⟨S1x128x128, .i1⟩
  | 38 => ⟨S1x128x128, .i1⟩
  | 39 => ⟨S16x128x128, .i1⟩
  | 40 => ⟨S16x128x128, .i1⟩
  | 41 => ⟨S16x128x128x1, .f32⟩
  | 42 => ⟨S1x1x1x50, .f32⟩
  | 43 => ⟨S16x128x128x50, .f32⟩
  | 44 => ⟨S16x128x128x50, .f32⟩
  | 45 => ⟨S16x128x128x50, .f32⟩
  | 46 => ⟨S16x128x128x50, .f32⟩
  | 47 => ⟨S16x128x128x50, .f32⟩
  | 48 => ⟨S16x128x128x50, .f32⟩
  | 49 => ⟨S16x128x128x50, .f32⟩
  | 50 => ⟨S1x50x128, .f32⟩
  | 51 => ⟨S50x128, .f32⟩
  | 52 => ⟨S16x128x128x128, .f32⟩
  | 53 => ⟨S1x128, .f32⟩
  | 54 => ⟨S128, .f32⟩
  | 55 => ⟨S1x1x1x128, .f32⟩
  | 56 => ⟨S16x128x128x128, .f32⟩
  | 57 => ⟨S16x128x128x128, .f32⟩
  | 58 => ⟨S16x128x128x4x32, .f32⟩
  | 59 => ⟨S16x128x128, .f32⟩
  | 60 => ⟨S1x128x128, .f32⟩
  | 61 => ⟨S128x128, .f32⟩
  | 62 => ⟨S16x128x128, .f32⟩
  | 63 => ⟨S1x128, .f32⟩
  | 64 => ⟨S128, .f32⟩
  | 65 => ⟨S1x1x128, .f32⟩
  | 66 => ⟨S16x128x128, .f32⟩
  | 67 => ⟨S16x128x128, .f32⟩
  | 68 => ⟨S16x128x4x32, .f32⟩
  | 69 => ⟨S1x128x128, .f32⟩
  | 70 => ⟨S128x128, .f32⟩
  | 71 => ⟨S16x128x128, .f32⟩
  | 72 => ⟨S1x128, .f32⟩
  | 73 => ⟨S128, .f32⟩
  | 74 => ⟨S1x1x128, .f32⟩
  | 75 => ⟨S16x128x128, .f32⟩
  | 76 => ⟨S16x128x128, .f32⟩
  | 77 => ⟨S16x128x4x32, .f32⟩
  | 78 => ⟨S1x128x128, .f32⟩
  | 79 => ⟨S128x128, .f32⟩
  | 80 => ⟨S16x128x128, .f32⟩
  | 81 => ⟨S1x128, .f32⟩
  | 82 => ⟨S128, .f32⟩
  | 83 => ⟨S1x1x128, .f32⟩
  | 84 => ⟨S16x128x128, .f32⟩
  | 85 => ⟨S16x128x128, .f32⟩
  | 86 => ⟨S16x128x4x32, .f32⟩
  | 87 => ⟨S16x4x128x128, .f32⟩
  | 88 => ⟨S16x128x128x4, .f32⟩
  | 89 => ⟨S16x128x4x128, .f32⟩
  | 90 => ⟨S16x128x128x4, .f32⟩
  | 91 => ⟨S16x128x128x4, .f32⟩
  | 92 => ⟨S_, .f32⟩
  | 93 => ⟨S_, .f32⟩
  | 94 => ⟨S_, .f32⟩
  | 95 => ⟨S16x128x128x4, .f32⟩
  | 96 => ⟨S16x128x128x4, .f32⟩
  | 97 => ⟨S16x128x128x1, .i1⟩
  | 98 => ⟨S_, .f32⟩
  | 99 => ⟨S_, .f32⟩
  | 100 => ⟨S16x128x128x4, .i1⟩
  | 101 => ⟨S16x128x128x4, .f32⟩
  | 102 => ⟨S16x128x128x4, .f32⟩
  | 103 => ⟨S_, .f32⟩
  | 104 => ⟨S16x128x4, .f32⟩
  | 105 => ⟨S16x128x1x4, .f32⟩
  | 106 => ⟨S16x128x128x4, .f32⟩
  | 107 => ⟨S16x128x128x4, .f32⟩
  | 108 => ⟨S16x128x128x4, .f32⟩
  | 109 => ⟨S16x128x128x1, .i1⟩
  | 110 => ⟨S16x128x128x1, .f32⟩
  | 111 => ⟨S16x128x128x4, .f32⟩
  | 112 => ⟨S16x128x128x4, .f32⟩
  | 113 => ⟨S_, .f32⟩
  | 114 => ⟨S16x128x4, .f32⟩
  | 115 => ⟨S16x128x1x4, .f32⟩
  | 116 => ⟨S_, .f32⟩
  | 117 => ⟨S16x128x1x4, .f32⟩
  | 118 => ⟨S16x128x1x4, .f32⟩
  | 119 => ⟨S16x128x128x4, .f32⟩
  | 120 => ⟨S16x128x128x4, .f32⟩
  | 121 => ⟨S16x4x32x128, .f32⟩
  | 122 => ⟨S16x128x4x32, .f32⟩
  | 123 => ⟨S16x128x4x32, .f32⟩
  | 124 => ⟨S16x128x4x32, .f32⟩
  | 125 => ⟨S16x128x128, .f32⟩
  | 126 => ⟨S1x128x128, .f32⟩
  | 127 => ⟨S128x128, .f32⟩
  | _ => ⟨S16x128, .f32⟩

abbrev hbmTy0_2 (i : Nat) : BufTy := match i % 128 with
  | 0 => ⟨S16x128x128, .f32⟩
  | 1 => ⟨S16x128x128, .f32⟩
  | 2 => ⟨S1x128, .f32⟩
  | 3 => ⟨S128, .f32⟩
  | 4 => ⟨S1x1x128, .f32⟩
  | 5 => ⟨S16x128x128, .f32⟩
  | 6 => ⟨S16x128x128, .f32⟩
  | 7 => ⟨S1x128x128, .f32⟩
  | 8 => ⟨S128x128, .f32⟩
  | 9 => ⟨S16x128x128, .f32⟩
  | 10 => ⟨S1x128, .f32⟩
  | 11 => ⟨S128, .f32⟩
  | 12 => ⟨S1x1x128, .f32⟩
  | 13 => ⟨S16x128x128, .f32⟩
  | 14 => ⟨S16x128x128, .f32⟩
  | 15 => ⟨S16x128x128, .f32⟩
  | 16 => ⟨S16x128x128, .f32⟩
  | 17 => ⟨S_, .f32⟩
  | 18 => ⟨S16x128x128, .f32⟩
  | 19 => ⟨S16x128x128, .f32⟩
  | 20 => ⟨S16x128x128, .f32⟩
  | 21 => ⟨S_, .f32⟩
  | 22 => ⟨S16x128x128, .f32⟩
  | 23 => ⟨S16x128x128, .f32⟩
  | 24 => ⟨S16x128x128, .f32⟩
  | 25 => ⟨S_, .f32⟩
  | 26 => ⟨S16x128x128, .f32⟩
  | 27 => ⟨S16x128x128, .f32⟩
  | 28 => ⟨S_, .f32⟩
  | 29 => ⟨S16x128x128, .f32⟩
  | 30 => ⟨S16x128x128, .f32⟩
  | 31 => ⟨S16x128x128, .f32⟩
  | 32 => ⟨S16x128x128, .f32⟩
  | 33 => ⟨S16x128x3, .f32⟩
  | 34 => ⟨S16x128x3, .f32⟩
  | 35 => ⟨S16x128x125, .f32⟩
  | 36 => ⟨S16x128x128, .f32⟩
  | 37 => ⟨S2048x128, .f32⟩
  | 38 => ⟨S2048x3, .f32⟩
  | 39 => ⟨S16x128x3, .f32⟩
  | 40 => ⟨S16x128x1x3, .f32⟩
  | 41 => ⟨S16x1x128x3, .f32⟩
  | 42 => ⟨S16x128x128x3, .f32⟩
  | 43 => ⟨S16x128x128x3, .f32⟩
  | 44 => ⟨S16x128x128x3, .f32⟩
  | 45 => ⟨S16x128x128x3, .f32⟩
  | 46 => ⟨S_, .f32⟩
  | 47 => ⟨S16x128x128, .f32⟩
  | 48 => ⟨S_, .f32⟩
  | 49 => ⟨S16x128x128, .f32⟩
  | 50 => ⟨S16x128x128, .f32⟩
  | 51 => ⟨S16x128x128, .f32⟩
  | 52 => ⟨S_, .f32⟩
  | 53 => ⟨S16x128x128, .f32⟩
  | 54 => ⟨S16x128x128, .i1⟩
  | 55 => ⟨S1x128x128, .i1⟩
  | 56 => ⟨S1x128x128, .i1⟩
  | 57 => ⟨S16x128x128, .i1⟩
  | 58 => ⟨S16x128x128, .i1⟩
  | 59 => ⟨S16x128x128x1, .f32⟩
  | 60 => ⟨S1x1x1x50, .f32⟩
  | 61 => ⟨S16x128x128x50, .f32⟩
  | 62 => ⟨S16x128x128x50, .f32⟩
  | 63 => ⟨S16x128x128x50, .f32⟩
  | 64 => ⟨S16x128x128x50, .f32⟩
  | 65 => ⟨S16x128x128x50, .f32⟩
  | 66 => ⟨S16x128x128x50, .f32⟩
  | 67 => ⟨S16x128x128x50, .f32⟩
  | 68 => ⟨S1x50x128, .f32⟩
  | 69 => ⟨S50x128, .f32⟩
  | 70 => ⟨S16x128x128x128, .f32⟩
  | 71 => ⟨S1x128, .f32⟩
  | 72 => ⟨S128, .f32⟩
  | 73 => ⟨S1x1x1x128, .f32⟩
  | 74 => ⟨S16x128x128x128, .f32⟩
  | 75 => ⟨S16x128x128x128, .f32⟩
  | 76 => ⟨S16x128x128x4x32, .f32⟩
  | 77 => ⟨S16x128x128, .f32⟩
  | 78 => ⟨S1x128x128, .f32⟩
  | 79 => ⟨S128x128, .f32⟩
  | 80 => ⟨S16x128x128, .f32⟩
  | 81 => ⟨S1x128, .f32⟩
  | 82 => ⟨S128, .f32⟩
  | 83 => ⟨S1x1x128, .f32⟩
  | 84 => ⟨S16x128x128, .f32⟩
  | 85 => ⟨S16x128x128, .f32⟩
  | 86 => ⟨S16x128x4x32, .f32⟩
  | 87 => ⟨S1x128x128, .f32⟩
  | 88 => ⟨S128x128, .f32⟩
  | 89 => ⟨S16x128x128, .f32⟩
  | 90 => ⟨S1x128, .f32⟩
  | 91 => ⟨S128, .f32⟩
  | 92 => ⟨S1x1x128, .f32⟩
  | 93 => ⟨S16x128x128, .f32⟩
  | 94 => ⟨S16x128x128, .f32⟩
  | 95 => ⟨S16x128x4x32, .f32⟩
  | 96 => ⟨S1x128x128, .f32⟩
  | 97 => ⟨S128x128, .f32⟩
  | 98 => ⟨S16x128x128, .f32⟩
  | 99 => ⟨S1x128, .f32⟩
  | 100 => ⟨S128, .f32⟩
  | 101 => ⟨S1x1x128, .f32⟩
  | 102 => ⟨S16x128x128, .f32⟩
  | 103 => ⟨S16x128x128, .f32⟩
  | 104 => ⟨S16x128x4x32, .f32⟩
  | 105 => ⟨S16x4x128x128, .f32⟩
  | 106 => ⟨S16x128x128x4, .f32⟩
  | 107 => ⟨S16x128x4x128, .f32⟩
  | 108 => ⟨S16x128x128x4, .f32⟩
  | 109 => ⟨S16x128x128x4, .f32⟩
  | 110 => ⟨S_, .f32⟩
  | 111 => ⟨S_, .f32⟩
  | 112 => ⟨S_, .f32⟩
  | 113 => ⟨S16x128x128x4, .f32⟩
  | 114 => ⟨S16x128x128x4, .f32⟩
  | 115 => ⟨S16x128x128x1, .i1⟩
  | 116 => ⟨S_, .f32⟩
  | 117 => ⟨S_, .f32⟩
  | 118 => ⟨S16x128x128x4, .i1⟩
  | 119 => ⟨S16x128x128x4, .f32⟩
  | 120 => ⟨S16x128x128x4, .f32⟩
  | 121 => ⟨S_, .f32⟩
  | 122 => ⟨S16x128x4, .f32⟩
  | 123 => ⟨S16x128x1x4, .f32⟩
  | 124 => ⟨S16x128x128x4, .f32⟩
  | 125 => ⟨S16x128x128x4, .f32⟩
  | 126 => ⟨S16x128x128x4, .f32⟩
  | 127 => ⟨S16x128x128x1, .i1⟩
  | _ => ⟨S16x128, .f32⟩

abbrev hbmTy0_3 (i : Nat) : BufTy := match i % 128 with
  | 0 => ⟨S16x128x128x1, .f32⟩
  | 1 => ⟨S16x128x128x4, .f32⟩
  | 2 => ⟨S16x128x128x4, .f32⟩
  | 3 => ⟨S_, .f32⟩
  | 4 => ⟨S16x128x4, .f32⟩
  | 5 => ⟨S16x128x1x4, .f32⟩
  | 6 => ⟨S_, .f32⟩
  | 7 => ⟨S16x128x1x4, .f32⟩
  | 8 => ⟨S16x128x1x4, .f32⟩
  | 9 => ⟨S16x128x128x4, .f32⟩
  | 10 => ⟨S16x128x128x4, .f32⟩
  | 11 => ⟨S16x4x32x128, .f32⟩
  | 12 => ⟨S16x128x4x32, .f32⟩
  | 13 => ⟨S16x128x4x32, .f32⟩
  | 14 => ⟨S16x128x4x32, .f32⟩
  | 15 => ⟨S16x128x128, .f32⟩
  | 16 => ⟨S1x128x128, .f32⟩
  | 17 => ⟨S128x128, .f32⟩
  | 18 => ⟨S16x128x128, .f32⟩
  | 19 => ⟨S16x128x128, .f32⟩
  | 20 => ⟨S1x128, .f32⟩
  | 21 => ⟨S128, .f32⟩
  | 22 => ⟨S1x1x128, .f32⟩
  | 23 => ⟨S16x128x128, .f32⟩
  | 24 => ⟨S16x128x128, .f32⟩
  | 25 => ⟨S1x128x128, .f32⟩
  | 26 => ⟨S128x128, .f32⟩
  | 27 => ⟨S16x128x128, .f32⟩
  | 28 => ⟨S1x128, .f32⟩
  | 29 => ⟨S128, .f32⟩
  | 30 => ⟨S1x1x128, .f32⟩
  | 31 => ⟨S16x128x128, .f32⟩
  | 32 => ⟨S16x128x128, .f32⟩
  | 33 => ⟨S16x128x128, .f32⟩
  | 34 => ⟨S16x128x128, .f32⟩
  | 35 => ⟨S_, .f32⟩
  | 36 => ⟨S16x128x128, .f32⟩
  | 37 => ⟨S16x128x128, .f32⟩
  | 38 => ⟨S16x128x128, .f32⟩
  | 39 => ⟨S_, .f32⟩
  | 40 => ⟨S16x128x128, .f32⟩
  | 41 => ⟨S16x128x128, .f32⟩
  | 42 => ⟨S16x128x128, .f32⟩
  | 43 => ⟨S_, .f32⟩
  | 44 => ⟨S16x128x128, .f32⟩
  | 45 => ⟨S16x128x128, .f32⟩
  | 46 => ⟨S_, .f32⟩
  | 47 => ⟨S16x128x128, .f32⟩
  | 48 => ⟨S16x128x128, .f32⟩
  | 49 => ⟨S16x128x128, .f32⟩
  | 50 => ⟨S16x128x128, .f32⟩
  | 51 => ⟨S16x128x3, .f32⟩
  | 52 => ⟨S16x128x3, .f32⟩
  | 53 => ⟨S16x128x125, .f32⟩
  | 54 => ⟨S16x128x128, .f32⟩
  | 55 => ⟨S2048x128, .f32⟩
  | 56 => ⟨S2048x3, .f32⟩
  | 57 => ⟨S2048x10, .f32⟩
  | 58 => ⟨S1x10, .f32⟩
  | 59 => ⟨S2048x10, .f32⟩
  | 60 => ⟨S2048x10, .f32⟩
  | 61 => ⟨S2048x13, .f32⟩
  | _ => ⟨S16x128, .f32⟩

abbrev hbmTy (i : Nat) : BufTy := match i / 128 with
  | 0 => hbmTy0_0 i
  | 1 => hbmTy0_1 i
  | 2 => hbmTy0_2 i
  | 3 => hbmTy0_3 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_values : Ref sig .tc := ⟨.hbm, 54, rfl⟩
abbrev main_indices : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_cst_17 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_cst : Ref sig .tc := ⟨.hbm, 117, rfl⟩
abbrev main_call0_v3 : Ref sig .tc := ⟨.hbm, 118, rfl⟩
abbrev main_call0_v4 : Ref sig .tc := ⟨.hbm, 119, rfl⟩
abbrev main_call0_cst_0 : Ref sig .tc := ⟨.hbm, 120, rfl⟩
abbrev main_call0_v5 : Ref sig .tc := ⟨.hbm, 121, rfl⟩
abbrev main_call0_v6 : Ref sig .tc := ⟨.hbm, 122, rfl⟩
abbrev main_call0_v7 : Ref sig .tc := ⟨.hbm, 123, rfl⟩
abbrev main_call0_cst_1 : Ref sig .tc := ⟨.hbm, 124, rfl⟩
abbrev main_call0_v8 : Ref sig .tc := ⟨.hbm, 125, rfl⟩
abbrev main_call0_v9 : Ref sig .tc := ⟨.hbm, 126, rfl⟩
abbrev main_call0_v10 : Ref sig .tc := ⟨.hbm, 127, rfl⟩
abbrev main_call0_v11 : Ref sig .tc := ⟨.hbm, 128, rfl⟩
abbrev main_call0_v12 : Ref sig .tc := ⟨.hbm, 129, rfl⟩
abbrev main_call0_v13 : Ref sig .tc := ⟨.hbm, 130, rfl⟩
abbrev main_call0_v14 : Ref sig .tc := ⟨.hbm, 131, rfl⟩
abbrev main_call0_v15 : Ref sig .tc := ⟨.hbm, 132, rfl⟩
abbrev main_call0_v16 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_18 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_c_19 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_20 : Ref sig .tc := ⟨.hbm, 156, rfl⟩
abbrev main_v92 : Ref sig .tc := ⟨.hbm, 157, rfl⟩
abbrev main_cst_21 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_cst_22 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_23 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_cst_24 : Ref sig .tc := ⟨.hbm, 226, rfl⟩
abbrev main_call1_v0 : Ref sig .tc := ⟨.hbm, 227, rfl⟩
abbrev main_call1_v1 : Ref sig .tc := ⟨.hbm, 228, rfl⟩
abbrev main_call1_v2 : Ref sig .tc := ⟨.hbm, 229, rfl⟩
abbrev main_v158 : Ref sig .tc := ⟨.hbm, 230, rfl⟩
abbrev main_cst_25 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_26 : Ref sig .tc := ⟨.hbm, 241, rfl⟩
abbrev main_v168 : Ref sig .tc := ⟨.hbm, 242, rfl⟩
abbrev main_v169 : Ref sig .tc := ⟨.hbm, 243, rfl⟩
abbrev main_cst_27 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_28 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_cst_29 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_30 : Ref sig .tc := ⟨.hbm, 281, rfl⟩
abbrev main_v204 : Ref sig .tc := ⟨.hbm, 282, rfl⟩
abbrev main_v205 : Ref sig .tc := ⟨.hbm, 283, rfl⟩
abbrev main_cst_31 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_cst_32 : Ref sig .tc := ⟨.hbm, 302, rfl⟩
abbrev main_v223 : Ref sig .tc := ⟨.hbm, 303, rfl⟩
abbrev main_cst_33 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_34 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_cst_35 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_cst_36 : Ref sig .tc := ⟨.hbm, 372, rfl⟩
abbrev main_call2_v0 : Ref sig .tc := ⟨.hbm, 373, rfl⟩
abbrev main_call2_v1 : Ref sig .tc := ⟨.hbm, 374, rfl⟩
abbrev main_call2_v2 : Ref sig .tc := ⟨.hbm, 375, rfl⟩
abbrev main_v289 : Ref sig .tc := ⟨.hbm, 376, rfl⟩
abbrev main_cst_37 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_cst_38 : Ref sig .tc := ⟨.hbm, 387, rfl⟩
abbrev main_v299 : Ref sig .tc := ⟨.hbm, 388, rfl⟩
abbrev main_v300 : Ref sig .tc := ⟨.hbm, 389, rfl⟩
abbrev main_cst_39 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_cst_40 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_cst_41 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_cst_42 : Ref sig .tc := ⟨.hbm, 427, rfl⟩
abbrev main_v335 : Ref sig .tc := ⟨.hbm, 428, rfl⟩
abbrev main_v336 : Ref sig .tc := ⟨.hbm, 429, rfl⟩
abbrev main_cst_43 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩

abbrev nD : Nat := 1
abbrev τ : Topo := Topo.v7x

variable {F : FTy → Type} [FloatOps F]
-- ==== Proof.Frames.lean ====
/-
  The claims that need no mathematics: each of the three programs runs to its end with every semaphore counter at zero and its
  arguments unchanged, and the two named constants are what the idealization says they are.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_layers
public import Idealize.ShloMosaic.Lib.Quiescent

@[expose] public section

noncomputable section

open Idealize.ShloMosaic Idealize.ShloMosaic.TcCoe Idealize.SL.Sem

namespace Cert.Proof.Frames

/-- The kernel as it runs. -/
theorem kernel : Cert.quiescent_Kernel := fun m ρ _ => Cert.Kernel.Gen.frame m ρ

/-- The idealized kernel. -/
theorem ideal : Cert.quiescent_KernelIdeal := fun m ρ _ => Cert.KernelIdeal.Gen.frame m ρ

/-- The reference, with the contents of its result forgotten. -/
theorem reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized kernel, from memories of the precondition. -/
theorem ideal_finite : Cert.quiescent_KernelIdeal_pre_finite_layers := fun m ρ _ => Cert.KernelIdeal.Gen.frame m ρ

/-- The reference, from memories of the precondition. -/
theorem reference_finite : Cert.quiescent_ReferenceIdeal_pre_finite_layers := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mark a taken lattice point receives is infinite, and the scale of the logits is the inverse root of the head width. -/
theorem preserves : Cert.preserves_Kernel_KernelIdeal :=
  ⟨IdealRules.named_const.statement Cert.KernelIdeal.κ "taken" .f32 0x7149F2CA#32 ⊤ rfl,
    IdealRules.named_const.statement Cert.KernelIdeal.κ "inv_sqrt_hd" .f32 0x3E3504F3#32
      (((Real.sqrt 32)⁻¹ : ℝ) : EReal) rfl⟩

end Cert.Proof.Frames

end
-- ==== Proof.Stages.lean ====
/- The kernel's body for one graph, cut into the steps of the computation it carries out.
   Each step is a function of whole vectors; `oneGraph` is their composition, and the body
   stores it twice, once for each of the two graphs of its block. -/
module

public import proofs.«01_k».proof.Proof.Gen.KernelIdeal.Skeleton

@[expose] public section

set_option maxRecDepth 16384

noncomputable section

namespace Cert.KernelIdeal.Stages

open Cert.KernelIdeal Cert.KernelIdeal.Gen Idealize.ShloMosaic Idealize.SL.Sem

variable {F : FTy → Type} [FloatOps F] [Named F]

/-- The tanh form of the GELU activation, at every element of a vector. -/
def geluV {s : Shape} (v : FVec F s .f32) : FVec F s .f32 :=
  mulf v (mulf (broadcast s (Scalar.ofBits .f32 0x3F000000#32))
    (addf (broadcast s (Scalar.ofBits .f32 0x3F800000#32))
      (tanh (mulf (broadcast s (Scalar.ofBits .f32 0x3F4C422A#32))
        (addf v (mulf (broadcast s (Scalar.ofBits .f32 0x3D372713#32)) (mulf v (mulf v v))))))))

/-- The features of the 27 latent points of a graph: the encoding, projected, through GELU. -/
def latentV (enc : FVec F S1x1x128 .f32) (wup : FVec F S128x3456 .f32) (bup : FVec F S1x3456 .f32) : FVec F S27x128 .f32 :=
  shapeCast S27x128 (geluV (addf
    (matmul dot_S1x128_S128x3456_S1x3456_1_0_0_1_n_n none (shapeCast S1x128 enc shapeCasts_S1x1x128_S1x128)
      (shapeCast S128x3456 wup shapeCasts_S128x3456_S128x3456) (constant S1x3456 .f32 0x00000000#32))
    (shapeCast S1x3456 bup shapeCasts_S1x3456_S1x3456))) shapeCasts_S1x3456_S27x128

/-- Squared distances of the 128 nodes to the 27 latent points. -/
def latentDistV (p : FVec F S128x3 .f32) (gp : FVec F S27x3 .f32) : FVec F S128x27 .f32 :=
  let gt := transpose S3x27 [1, 0] gp transposes_S27x3_p1_0_S3x27
  let dx := subf (broadcastTo S128x27 (extractStridedSlice S128x1 ![0, 0] p slices_S128x3_o0_0_S128x1) broadcasts_S128x1_S128x27)
    (broadcastTo S128x27 (extractStridedSlice S1x27 ![0, 0] gt slices_S3x27_o0_0_S1x27) broadcasts_S1x27_S128x27)
  let dy := subf (broadcastTo S128x27 (extractStridedSlice S128x1 ![0, 1] p slices_S128x3_o0_1_S128x1) broadcasts_S128x1_S128x27)
    (broadcastTo S128x27 (extractStridedSlice S1x27 ![1, 0] gt slices_S3x27_o1_0_S1x27) broadcasts_S1x27_S128x27)
  let dz := subf (broadcastTo S128x27 (extractStridedSlice S128x1 ![0, 2] p slices_S128x3_o0_2_S128x1) broadcasts_S128x1_S128x27)
    (broadcastTo S128x27 (extractStridedSlice S1x27 ![2, 0] gt slices_S3x27_o2_0_S1x27) broadcasts_S1x27_S128x27)
  addf (addf (mulf dx dx) (mulf dy dy)) (mulf dz dz)

/-- The column numbers 0 … 26 as floats, in every row. -/
def colsV : FVec F S128x27 .f32 := sitofp .f32 (iota .tc S128x27 32 [1] iota_S128x27_d1_w32)

/-- The least element of each row. -/
def rowMinV (d : FVec F S128x27 .f32) : FVec F S128x1 .f32 :=
  shapeCast S128x1 (multiReduction .minimumf [1] S128 d 0x7F800000#32 reduces_S128x27_S128 (.inl rfl) rfl) shapeCasts_S128_S128x1

/-- The first place of each row that holds the row's least element. -/
def firstV (d : FVec F S128x27 .f32) : IVec S128x27 1 :=
  cmpf .oeq (colsV (F := F)) (broadcastTo S128x27
    (rowMinV (select (cmpf .oeq d (broadcastTo S128x27 (rowMinV d) broadcasts_S128x1_S128x27)) (colsV (F := F))
      (broadcast S128x27 (Scalar.ofBits .f32 0x41D80000#32)))) broadcasts_S128x1_S128x27)

/-- The row with the marked place put out of the running. -/
def struckV (d : FVec F S128x27 .f32) : FVec F S128x27 .f32 :=
  select (firstV d) (broadcast S128x27 (Named.named κ "taken" 0x7149F2CA#32)) d

/-- The inverse of the least squared distance of each row. -/
def weightV (d : FVec F S128x27 .f32) : FVec F S128x1 .f32 :=
  divf (broadcast S128x1 (Scalar.ofBits .f32 0x3F800000#32)) (addf (rowMinV d) (broadcast S128x1 (Scalar.ofBits .f32 0x24E69595#32)))

/-- A mark as the float 0 or 1. -/
def oneHotV {s : Shape} (c : IVec s 1) : FVec F s .f32 := sitofp .f32 (extui 32 c natLt_1_32)

/-- The interpolation weights of the latent points: the three nearest ones, by inverse squared distance. -/
def mixV (d : FVec F S128x27 .f32) : FVec F S128x27 .f32 :=
  let w1 := weightV d
  let w2 := weightV (struckV d)
  let w3 := weightV (struckV (struckV d))
  let tot := addf (addf w1 w2) w3
  addf (addf (mulf (oneHotV (firstV d)) (broadcastTo S128x27 (divf w1 tot) broadcasts_S128x1_S128x27))
      (mulf (oneHotV (firstV (struckV d))) (broadcastTo S128x27 (divf w2 tot) broadcasts_S128x1_S128x27)))
    (mulf (oneHotV (firstV (struckV (struckV d)))) (broadcastTo S128x27 (divf w3 tot) broadcasts_S128x1_S128x27))

/-- The features of the nodes before the first layer. -/
def startV (g : FVec F S27x128 .f32) (d : FVec F S128x27 .f32) : FVec F S128x128 .f32 :=
  geluV (matmul dot_S128x27_S27x128_S128x128_1_0_0_1_n_n none (mixV d) g (constant S128x128 .f32 0x00000000#32))

/-- Distances between the nodes. -/
def distV (p : FVec F S128x3 .f32) : FVec F S128x128 .f32 :=
  let pt := transpose S3x128 [1, 0] p transposes_S128x3_p1_0_S3x128
  let dx := subf (broadcastTo S128x128 (extractStridedSlice S128x1 ![0, 0] p slices_S128x3_o0_0_S128x1) broadcasts_S128x1_S128x128)
    (broadcastTo S128x128 (extractStridedSlice S1x128 ![0, 0] pt slices_S3x128_o0_0_S1x128) broadcasts_S1x128_S128x128)
  let dy := subf (broadcastTo S128x128 (extractStridedSlice S128x1 ![0, 1] p slices_S128x3_o0_1_S128x1) broadcasts_S128x1_S128x128)
    (broadcastTo S128x128 (extractStridedSlice S1x128 ![1, 0] pt slices_S3x128_o1_0_S1x128) broadcasts_S1x128_S128x128)
  let dz := subf (broadcastTo S128x128 (extractStridedSlice S128x1 ![0, 2] p slices_S128x3_o0_2_S128x1) broadcasts_S128x1_S128x128)
    (broadcastTo S128x128 (extractStridedSlice S1x128 ![2, 0] pt slices_S3x128_o2_0_S1x128) broadcasts_S1x128_S128x128)
  sqrt (addf (addf (addf (mulf dx dx) (mulf dy dy)) (mulf dz dz)) (broadcast S128x128 (Scalar.ofBits .f32 0x2B8CBCCC#32)))

/-- Which pairs of nodes are neighbours. -/
def maskV (p : FVec F S128x3 .f32) : IVec S128x128 1 :=
  andi (cmpf .olt (distV p) (broadcast S128x128 (Scalar.ofBits .f32 0x40000000#32)))
    (cmpi .ne (iota .tc S128x128 32 [0] iota_S128x128_d0_w32) (iota .tc S128x128 32 [1] iota_S128x128_d1_w32))

/-- The radial features of every pair. -/
def radialV (p : FVec F S128x3 .f32) (offs : FVec F S50x1 .f32) (coef : FVec F S1x1 .f32) : FVec F S50x128x128 .f32 :=
  let e := subf (broadcastTo S50x128x128 (shapeCast S1x128x128 (distV p) shapeCasts_S128x128_S1x128x128) broadcasts_S1x128x128_S50x128x128)
    (broadcastTo S50x128x128 (shapeCast S50x1x1 (shapeCast S50x1 offs shapeCasts_S50x1_S50x1) shapeCasts_S50x1_S50x1x1) broadcasts_S50x1x1_S50x128x128)
  exp (mulf (broadcastTo S50x128x128 (shapeCast S1x1x1 (shapeCast S1x1 coef shapeCasts_S1x1_S1x1) shapeCasts_S1x1_S1x1x1) broadcasts_S1x1x1_S50x128x128)
    (mulf e e))

/-- A dense layer. -/
def denseV (x : FVec F S128x128 .f32) (w : FVec F S1x128x128 .f32) (b : FVec F S1x1x128 .f32) : FVec F S128x128 .f32 :=
  addf (matmul dot_S128x128_S128x128_S128x128_1_0_0_1_n_n none x (shapeCast S128x128 w shapeCasts_S1x128x128_S128x128) (constant S128x128 .f32 0x00000000#32))
    (broadcastTo S128x128 (shapeCast S1x128 b shapeCasts_S1x1x128_S1x128) broadcasts_S1x128_S128x128)

/-- One head's attention logits, the pair (source, target). -/
def logitV (mk : IVec S128x128 1) (rbf : FVec F S50x128x128 .f32) (q k : FVec F S128x32 .f32) (we : FVec F S50x32 .f32) (be : FVec F S1x32 .f32) :
    FVec F S128x128 .f32 :=
  select mk
    (mulf (addf (addf
        (matmul dot_S128x32_S128x32_S128x128_1_1_0_0_n_n none k q (constant S128x128 .f32 0x00000000#32))
        (multiReduction .add [0] S128x128 (mulf rbf (broadcastTo S50x128x128 (shapeCast S50x1x128
          (matmul dot_S50x32_S128x32_S50x128_1_1_0_0_n_n none we q (constant S50x128 .f32 0x00000000#32))
          shapeCasts_S50x128_S50x1x128) broadcasts_S50x1x128_S50x128x128)) 0x00000000#32 reduces_S50x128x128_S128x128 (.inl rfl) rfl))
        (broadcastTo S128x128 (matmul dot_S1x32_S128x32_S1x128_1_1_0_0_n_n none be q (constant S1x128 .f32 0x00000000#32)) broadcasts_S1x128_S128x128))
      (broadcast S128x128 (Named.named κ "inv_sqrt_hd" 0x3E3504F3#32)))
    (broadcast S128x128 (Scalar.ofBits .f32 0xCE6E6B28#32))

/-- The masked exponentials of a head's logits. -/
def expoV (mk : IVec S128x128 1) (lg : FVec F S128x128 .f32) : FVec F S128x128 .f32 :=
  mulf (exp (subf lg (broadcastTo S128x128 (shapeCast S1x128
    (multiReduction .maximumf [0] S128 lg 0xFF800000#32 reduces_S128x128_S128 (.inl rfl) rfl) shapeCasts_S128_S1x128) broadcasts_S1x128_S128x128)))
    (oneHotV mk)

/-- The attention weights: the masked exponentials, each over the sum of its target's. -/
def alphaV (ex : FVec F S128x128 .f32) : FVec F S128x128 .f32 :=
  divf ex (broadcastTo S128x128 (addf
    (shapeCast S1x128 (multiReduction .add [0] S128 ex 0x00000000#32 reduces_S128x128_S128 (.inl rfl) rfl) shapeCasts_S128_S1x128)
    (broadcast S1x128 (Scalar.ofBits .f32 0x24E69595#32))) broadcasts_S1x128_S128x128)

/-- What a head gathers with its attention weights. -/
def gatherV (al : FVec F S128x128 .f32) (rbf : FVec F S50x128x128 .f32) (v : FVec F S128x32 .f32) (we : FVec F S50x32 .f32) (be : FVec F S1x32 .f32) :
    FVec F S128x32 .f32 :=
  addf (addf
      (matmul dot_S128x128_S128x32_S128x32_0_0_1_1_n_n none al v (constant S128x32 .f32 0x00000000#32))
      (matmul dot_S50x128_S50x32_S128x32_0_0_1_1_n_n none
        (multiReduction .add [1] S50x128 (mulf rbf (broadcastTo S50x128x128 (shapeCast S1x128x128 al shapeCasts_S128x128_S1x128x128)
          broadcasts_S1x128x128_S50x128x128)) 0x00000000#32 reduces_S50x128x128_S50x128 (.inl rfl) rfl)
        we (constant S128x32 .f32 0x00000000#32)))
    (mulf (broadcastTo S128x32 (matmul dot_S128x128_S128x1_S128x1_0_0_1_1_n_n none al
        (broadcast S128x1 (Scalar.ofBits .f32 0x3F800000#32)) (constant S128x1 .f32 0x00000000#32)) broadcasts_S128x1_S128x32)
      (broadcastTo S128x32 be broadcasts_S1x32_S128x32))

/-- One head. -/
def headV (mk : IVec S128x128 1) (rbf : FVec F S50x128x128 .f32) (q k v : FVec F S128x32 .f32) (we : FVec F S50x32 .f32) (be : FVec F S1x32 .f32) :
    FVec F S128x32 .f32 :=
  gatherV (alphaV (expoV mk (logitV mk rbf q k we be))) rbf v we be

/-- The four heads side by side. -/
def attnV (mk : IVec S128x128 1) (rbf : FVec F S50x128x128 .f32) (q k v : FVec F S128x128 .f32) (we : FVec F S1x50x128 .f32) (be : FVec F S1x1x128 .f32) :
    FVec F S128x128 .f32 :=
  let we' := shapeCast S50x128 we shapeCasts_S1x50x128_S50x128
  let be' := shapeCast S1x128 be shapeCasts_S1x1x128_S1x128
  concatenate S128x128 1
    [⟨S128x32, headV mk rbf (extractStridedSlice S128x32 ![0, 0] q slices_S128x128_o0_0_S128x32)
        (extractStridedSlice S128x32 ![0, 0] k slices_S128x128_o0_0_S128x32) (extractStridedSlice S128x32 ![0, 0] v slices_S128x128_o0_0_S128x32)
        (extractStridedSlice S50x32 ![0, 0] we' slices_S50x128_o0_0_S50x32) (extractStridedSlice S1x32 ![0, 0] be' slices_S1x128_o0_0_S1x32)⟩,
     ⟨S128x32, headV mk rbf (extractStridedSlice S128x32 ![0, 32] q slices_S128x128_o0_32_S128x32)
        (extractStridedSlice S128x32 ![0, 32] k slices_S128x128_o0_32_S128x32) (extractStridedSlice S128x32 ![0, 32] v slices_S128x128_o0_32_S128x32)
        (extractStridedSlice S50x32 ![0, 32] we' slices_S50x128_o0_32_S50x32) (extractStridedSlice S1x32 ![0, 32] be' slices_S1x128_o0_32_S1x32)⟩,
     ⟨S128x32, headV mk rbf (extractStridedSlice S128x32 ![0, 64] q slices_S128x128_o0_64_S128x32)
        (extractStridedSlice S128x32 ![0, 64] k slices_S128x128_o0_64_S128x32) (extractStridedSlice S128x32 ![0, 64] v slices_S128x128_o0_64_S128x32)
        (extractStridedSlice S50x32 ![0, 64] we' slices_S50x128_o0_64_S50x32) (extractStridedSlice S1x32 ![0, 64] be' slices_S1x128_o0_64_S1x32)⟩,
     ⟨S128x32, headV mk rbf (extractStridedSlice S128x32 ![0, 96] q slices_S128x128_o0_96_S128x32)
        (extractStridedSlice S128x32 ![0, 96] k slices_S128x128_o0_96_S128x32) (extractStridedSlice S128x32 ![0, 96] v slices_S128x128_o0_96_S128x32)
        (extractStridedSlice S50x32 ![0, 96] we' slices_S50x128_o0_96_S50x32) (extractStridedSlice S1x32 ![0, 96] be' slices_S1x128_o0_96_S1x32)⟩]
    concatenates_S128x32_S128x32_S128x32_S128x32_S128x128_d1

/-- The features after a layer's attention, skip connection and residual dense step. -/
def featV (x a s : FVec F S128x128 .f32) (wf : FVec F S1x128x128 .f32) (bf : FVec F S1x1x128 .f32) : FVec F S128x128 .f32 :=
  addf x (geluV (denseV (addf a s) wf bf))

/-- The moved positions: the first three features are added to them. -/
def moveV (p : FVec F S128x3 .f32) (f : FVec F S128x128 .f32) : FVec F S128x3 .f32 :=
  addf p (extractStridedSlice S128x3 ![0, 0] f slices_S128x128_o0_0_S128x3)

/-- The features handed on: the last three are the moved positions. -/
def passV (f : FVec F S128x128 .f32) (p : FVec F S128x3 .f32) : FVec F S128x128 .f32 :=
  concatenate S128x128 1 [⟨S128x125, extractStridedSlice S128x125 ![0, 0] f slices_S128x128_o0_0_S128x125⟩, ⟨S128x3, p⟩]
    concatenates_S128x125_S128x3_S128x128_d1

/-- A graph's rows of the result: its positions and the projection of its features. -/
def finishV (p : FVec F S128x3 .f32) (x : FVec F S128x128 .f32) (wo : FVec F S128x10 .f32) (bo : FVec F S1x10 .f32) : FVec F S128x13 .f32 :=
  concatenate S128x13 1 [⟨S128x3, p⟩, ⟨S128x10, addf
      (matmul dot_S128x128_S128x10_S128x10_1_0_0_1_n_n none x wo (constant S128x10 .f32 0x00000000#32))
      (broadcastTo S128x10 (shapeCast S1x10 bo shapeCasts_S1x10_S1x10) broadcasts_S1x10_S128x10)⟩]
    concatenates_S128x3_S128x10_S128x13_d1

/-- The features a layer computes from features and positions. -/
def layerV (p : FVec F S128x3 .f32) (x : FVec F S128x128 .f32) (offs : FVec F S50x1 .f32) (coef : FVec F S1x1 .f32)
    (wq : FVec F S1x128x128 .f32) (bq : FVec F S1x1x128 .f32) (wk : FVec F S1x128x128 .f32) (bk : FVec F S1x1x128 .f32)
    (wv : FVec F S1x128x128 .f32) (bv : FVec F S1x1x128 .f32) (we : FVec F S1x50x128 .f32) (be : FVec F S1x1x128 .f32)
    (ws : FVec F S1x128x128 .f32) (bs : FVec F S1x1x128 .f32) (wf : FVec F S1x128x128 .f32) (bf : FVec F S1x1x128 .f32) : FVec F S128x128 .f32 :=
  featV x (attnV (maskV p) (radialV p offs coef) (denseV x wq bq) (denseV x wk bk) (denseV x wv bv) we be) (denseV x ws bs) wf bf

/-- A graph's rows of the result from the blocks the body loads: interpolation onto the nodes, two layers, projection. -/
def oneGraph (enc : FVec F S1x1x128 .f32) (p : FVec F S128x3 .f32) (gp : FVec F S27x3 .f32) (offs : FVec F S50x1 .f32) (coef : FVec F S1x1 .f32)
    (wup : FVec F S128x3456 .f32) (bup : FVec F S1x3456 .f32)
    (wq0 : FVec F S1x128x128 .f32) (bq0 : FVec F S1x1x128 .f32) (wk0 : FVec F S1x128x128 .f32) (bk0 : FVec F S1x1x128 .f32) (wv0 : FVec F S1x128x128 .f32) (bv0 : FVec F S1x1x128 .f32) (we0 : FVec F S1x50x128 .f32) (be0 : FVec F S1x1x128 .f32) (ws0 : FVec F S1x128x128 .f32) (bs0 : FVec F S1x1x128 .f32) (wf0 : FVec F S1x128x128 .f32) (bf0 : FVec F S1x1x128 .f32)
    (wq1 : FVec F S1x128x128 .f32) (bq1 : FVec F S1x1x128 .f32) (wk1 : FVec F S1x128x128 .f32) (bk1 : FVec F S1x1x128 .f32) (wv1 : FVec F S1x128x128 .f32) (bv1 : FVec F S1x1x128 .f32) (we1 : FVec F S1x50x128 .f32) (be1 : FVec F S1x1x128 .f32) (ws1 : FVec F S1x128x128 .f32) (bs1 : FVec F S1x1x128 .f32) (wf1 : FVec F S1x128x128 .f32) (bf1 : FVec F S1x1x128 .f32)
    (wo : FVec F S128x10 .f32) (bo : FVec F S1x10 .f32) : FVec F S128x13 .f32 :=
  let f0 := layerV p (startV (latentV enc wup bup) (latentDistV p gp)) offs coef wq0 bq0 wk0 bk0 wv0 bv0 we0 be0 ws0 bs0 wf0 bf0
  let p1 := moveV p f0
  let f1 := layerV p1 (passV f0 p1) offs coef wq1 bq1 wk1 bk1 wv1 bv1 we1 be1 ws1 bs1 wf1 bf1
  finishV (moveV p1 f1) (passV f1 (moveV p1 f1)) wo bo

end Cert.KernelIdeal.Stages
-- ==== Proof.Literals.lean ====
/- The float literals of the two programs as the extended reals they denote, unfolded once. -/
module

public import Idealize.ShloMosaic.PureOps.Ideal

@[expose] public section

noncomputable section

namespace Cert.Math

open Idealize.ShloMosaic

/-- The extended real is a real number. -/
def IsReal (x : EReal) : Prop := ∃ r : ℝ, x = (r : EReal)

theorem one : Ideal.ofBits .f32 0x3F800000#32 = 1 := by
  have h : Ideal.ofBits .f32 0x3F800000#32 = ((1 : ℝ) : EReal) := by
    simp [Ideal.ofBits, Ideal.ieee, -EReal.coe_mul]; norm_num
  exact h
theorem zero : Ideal.ofBits .f32 0x00000000#32 = 0 := by
  simp [Ideal.ofBits, Ideal.ieee]
theorem half : Ideal.ofBits .f32 0x3F000000#32 = ((1 / 2 : ℝ) : EReal) := by
  simp [Ideal.ofBits, Ideal.ieee, -EReal.coe_mul]; norm_num
theorem minus_half : Ideal.ofBits .f32 0xBF000000#32 = ((-1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem forty_nine : Ideal.ofBits .f32 0x42440000#32 = ((49 : ℝ) : EReal) := by
  simp [Ideal.ofBits, Ideal.ieee, -EReal.coe_mul]; norm_num
theorem twenty_seven : Ideal.ofBits .f32 0x41D80000#32 = ((27 : ℝ) : EReal) := by
  simp [Ideal.ofBits, Ideal.ieee, -EReal.coe_mul]; norm_num
theorem thirty_two : Ideal.ofBits .f32 0x42000000#32 = ((32 : ℝ) : EReal) := by
  simp [Ideal.ofBits, Ideal.ieee, -EReal.coe_mul]; norm_num
theorem top : Ideal.ofBits .f32 0x7F800000#32 = ⊤ := by
  simp [Ideal.ofBits, Ideal.ieee]
theorem bot : Ideal.ofBits .f32 0xFF800000#32 = ⊥ := by
  simp [Ideal.ofBits, Ideal.ieee]
/-- A pattern whose exponent is not all ones denotes a real. -/
theorem finite_pattern (b : BitVec 32) (h : (b.extractLsb' 23 8).toNat ≠ 255) : IsReal (Ideal.ofBits .f32 b) := by
  change IsReal (Ideal.ieee 8 23 b)
  unfold Ideal.ieee
  dsimp only
  rw [if_neg (show (b.extractLsb' 23 8).toNat ≠ 2 ^ 8 - 1 from h)]
  split
  · exact ⟨_, rfl⟩
  · exact ⟨_, rfl⟩
/-- 0.7978846 -/
theorem root_two_pi : IsReal (Ideal.ofBits .f32 0x3F4C422A#32) := by
  simp [IsReal, Ideal.ofBits, Ideal.ieee, -EReal.coe_mul]
/-- 0.044715 -/
theorem cubic : IsReal (Ideal.ofBits .f32 0x3D372713#32) := by
  simp [IsReal, Ideal.ofBits, Ideal.ieee, -EReal.coe_mul]
/-- -1e9 -/
theorem masked : IsReal (Ideal.ofBits .f32 0xCE6E6B28#32) := by
  simp only [IsReal, Ideal.ofBits, Ideal.ieee]
  simp [-EReal.coe_mul]
  exact ⟨_, (EReal.coe_neg _).symm⟩
/-- 1e-16 -/
theorem tiny : ∃ r : ℝ, 0 < r ∧ Ideal.ofBits .f32 0x24E69595#32 = (r : EReal) := by
  refine ⟨_, ?_, by simp [Ideal.ofBits, Ideal.ieee, -EReal.coe_mul]; rfl⟩
  norm_num
/-- 1e-12 -/
theorem small : ∃ r : ℝ, 0 < r ∧ Ideal.ofBits .f32 0x2B8CBCCC#32 = (r : EReal) := by
  refine ⟨_, ?_, by simp [Ideal.ofBits, Ideal.ieee, -EReal.coe_mul]; rfl⟩
  norm_num

end Cert.Math

end
-- ==== Proof.Reals.lean ====
/- Arithmetic of extended reals that are real numbers: which operations stay among them, and the three identities by
   which the two programs' sums agree there, each a matter of distributing a product over a sum. -/
module

public import proofs.«01_k».proof.Proof.Literals

@[expose] public section

noncomputable section

namespace Cert.Math

open Idealize.ShloMosaic

theorem isReal_coe (r : ℝ) : IsReal (r : EReal) := ⟨r, rfl⟩
theorem isReal_zero : IsReal (0 : EReal) := ⟨0, rfl⟩
theorem isReal_one : IsReal (1 : EReal) := ⟨1, rfl⟩

variable {x y : EReal}

theorem IsReal.add (hx : IsReal x) (hy : IsReal y) : IsReal (x + y) := by
  obtain ⟨a, rfl⟩ := hx; obtain ⟨b, rfl⟩ := hy; exact ⟨a + b, (EReal.coe_add a b).symm⟩
theorem IsReal.mul (hx : IsReal x) (hy : IsReal y) : IsReal (x * y) := by
  obtain ⟨a, rfl⟩ := hx; obtain ⟨b, rfl⟩ := hy; exact ⟨a * b, (EReal.coe_mul a b).symm⟩
theorem IsReal.sub (hx : IsReal x) (hy : IsReal y) : IsReal (x - y) := by
  obtain ⟨a, rfl⟩ := hx; obtain ⟨b, rfl⟩ := hy; exact ⟨a - b, (EReal.coe_sub a b).symm⟩
theorem IsReal.neg (hx : IsReal x) : IsReal (-x) := by
  obtain ⟨a, rfl⟩ := hx; exact ⟨-a, (EReal.coe_neg a).symm⟩
theorem IsReal.exp (hx : IsReal x) : IsReal (Ideal.exp x) := by
  obtain ⟨a, rfl⟩ := hx; exact ⟨_, Ideal.exp_coe (r := a)⟩
theorem IsReal.tanh (hx : IsReal x) : IsReal (Ideal.tanh x) := by
  obtain ⟨a, rfl⟩ := hx; exact ⟨_, Ideal.tanh_coe (r := a)⟩
theorem IsReal.sqrt (hx : IsReal x) (h : 0 ≤ x) : IsReal (Ideal.sqrt x) := by
  obtain ⟨a, rfl⟩ := hx
  rw [Ideal.sqrt_coe, if_neg (not_lt.mpr (by exact_mod_cast h))]
  exact ⟨_, rfl⟩
theorem IsReal.div (hx : IsReal x) (hy : IsReal y) (h : y ≠ 0) : IsReal (Ideal.div x y) := by
  obtain ⟨b, rfl⟩ := hy
  rw [Ideal.div_coe (by exact_mod_cast h)]
  exact hx.mul (isReal_coe _)
theorem IsReal.ne_top (hx : IsReal x) : x ≠ ⊤ := by
  obtain ⟨a, rfl⟩ := hx; exact EReal.coe_ne_top a
theorem IsReal.ne_bot (hx : IsReal x) : x ≠ ⊥ := by
  obtain ⟨a, rfl⟩ := hx; exact EReal.coe_ne_bot a
theorem isReal_of_ne (h : x ≠ ⊤) (h' : x ≠ ⊥) : IsReal x := ⟨x.toReal, (EReal.coe_toReal h h').symm⟩

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (hf : ∀ i, IsReal (f i)) : IsReal (∑ i ∈ s, f i) := by
  choose g hg using hf
  obtain rfl : f = fun i => (g i : EReal) := funext hg
  exact ⟨_, (coe_sum s g).symm⟩

/-- The exponential of a number less one at least as great is real and nonnegative, of infinities too. -/
theorem isReal_exp_sub (h : x ≤ y) : IsReal (Ideal.exp (x - y)) ∧ 0 ≤ Ideal.exp (x - y) := by
  have hb : IsReal (Ideal.exp ⊥) ∧ 0 ≤ Ideal.exp ⊥ := ⟨isReal_zero, le_rfl⟩
  induction y using EReal.rec with
  | bot => rw [le_bot_iff.mp h, EReal.bot_sub]; exact hb
  | top => rw [EReal.sub_top]; exact hb
  | coe b =>
    induction x using EReal.rec with
    | bot => rw [EReal.bot_sub]; exact hb
    | top => exact absurd (top_le_iff.mp h) (EReal.coe_ne_top b)
    | coe a =>
      rw [← EReal.coe_sub, Ideal.exp_coe]
      exact ⟨isReal_coe _, by exact_mod_cast (Real.exp_pos _).le⟩

theorem sq_nonneg (hx : IsReal x) : 0 ≤ x * x := by
  obtain ⟨a, rfl⟩ := hx
  rw [← EReal.coe_mul]; exact_mod_cast mul_self_nonneg a

theorem IsReal.sub_sq_comm (hx : IsReal x) (hy : IsReal y) : (x - y) * (x - y) = (y - x) * (y - x) := by
  obtain ⟨a, rfl⟩ := hx; obtain ⟨b, rfl⟩ := hy
  rw [← EReal.coe_sub, ← EReal.coe_sub, ← EReal.coe_mul, ← EReal.coe_mul]
  congr 1; ring

/-- The logits: a query against a key plus the edge features, or against each of their parts. -/
theorem logit_split {n m : ℕ} (q k be : Fin n → EReal) (rbf : Fin m → EReal) (we : Fin m → Fin n → EReal)
    (hq : ∀ d, IsReal (q d)) (hbe : ∀ d, IsReal (be d)) (hr : ∀ r, IsReal (rbf r))
    (hwe : ∀ r d, IsReal (we r d)) :
    ∑ d, k d * q d + ∑ r, rbf r * ∑ d, we r d * q d + ∑ d, be d * q d
    = ∑ d, k d * q d + ∑ d, (∑ r, rbf r * we r d + be d) * q d := by
  rw [add_assoc]
  congr 1
  choose q' hq using hq; choose be' hbe using hbe; choose rbf' hr using hr; choose we' hwe using hwe
  obtain rfl : q = fun d => (q' d : EReal) := funext hq
  obtain rfl : be = fun d => (be' d : EReal) := funext hbe
  obtain rfl : rbf = fun d => (rbf' d : EReal) := funext hr
  obtain rfl : we = fun r d => (we' r d : EReal) := funext fun r => funext (hwe r)
  simp only [← EReal.coe_mul, ← coe_sum, ← EReal.coe_add]
  congr 1
  simp only [add_mul, Finset.sum_add_distrib, Finset.sum_mul, Finset.mul_sum, mul_assoc]
  rw [Finset.sum_comm]

/-- What a head gathers: values plus edge features under the weights, or each of their parts. -/
theorem gather_split {n m : ℕ} (al v : Fin n → EReal) (rbf : Fin m → Fin n → EReal) (we : Fin m → EReal) (be : EReal)
    (hal : ∀ s, IsReal (al s)) (hv : ∀ s, IsReal (v s)) (hr : ∀ r s, IsReal (rbf r s)) (hwe : ∀ r, IsReal (we r)) (hbe : IsReal be) :
    ∑ s, al s * v s + ∑ r, (∑ s, rbf r s * al s) * we r + (∑ s, al s) * be
    = ∑ s, v s * al s + ∑ s, al s * (∑ r, rbf r s * we r + be) := by
  choose al' hal using hal; choose v' hv using hv; choose rbf' hr using hr; choose we' hwe using hwe; obtain ⟨be', rfl⟩ := hbe
  obtain rfl : al = fun d => (al' d : EReal) := funext hal
  obtain rfl : v = fun d => (v' d : EReal) := funext hv
  obtain rfl : rbf = fun r d => (rbf' r d : EReal) := funext fun r => funext (hr r)
  obtain rfl : we = fun d => (we' d : EReal) := funext hwe
  simp only [← EReal.coe_mul, ← coe_sum, ← EReal.coe_add]
  congr 1
  simp only [mul_add, Finset.sum_add_distrib, Finset.sum_mul, Finset.mul_sum]
  rw [Finset.sum_comm, add_assoc]
  refine congrArg₂ (· + ·) (Finset.sum_congr rfl fun _ _ => mul_comm _ _) (congrArg₂ (· + ·) ?_ rfl)
  exact Finset.sum_congr rfl fun _ _ => Finset.sum_congr rfl fun _ _ => by ring

/-- A row marked at three places, each mark weighted, against a column: the column's entries there, weighted. -/
theorem pick_three {n : ℕ} (i₁ i₂ i₃ : Fin n) (w₁ w₂ w₃ : EReal) (g : Fin n → EReal) (h₁ : IsReal w₁) (h₂ : IsReal w₂) (h₃ : IsReal w₃)
    (hg : ∀ j, IsReal (g j)) :
    ∑ j, ((if j = i₁ then 1 else 0) * w₁ + (if j = i₂ then 1 else 0) * w₂ + (if j = i₃ then 1 else 0) * w₃) * g j
    = w₁ * g i₁ + w₂ * g i₂ + w₃ * g i₃ := by
  choose g' hg using hg
  obtain rfl : g = fun d => (g' d : EReal) := funext hg
  obtain ⟨w₁, rfl⟩ := h₁; obtain ⟨w₂, rfl⟩ := h₂; obtain ⟨w₃, rfl⟩ := h₃
  have e (p : Prop) [Decidable p] : (if p then 1 else 0 : EReal) = ((if p then 1 else 0 : ℝ) : EReal) := by split <;> rfl
  simp only [e, ← EReal.coe_mul, ← coe_sum, ← EReal.coe_add]
  congr 1
  simp [add_mul, Finset.sum_add_distrib, ite_mul]

end Cert.Math

end
-- ==== Proof.Formulas.lean ====
/- The steps both programs take, as formulas over numbers, and that they stay among the reals. -/
module

public import proofs.«01_k».proof.Proof.Reals

@[expose] public section

noncomputable section

namespace Cert.Math

open Idealize.ShloMosaic

/-- The tanh form of GELU of a number. -/
def gelu (y : EReal) : EReal :=
  y * (Ideal.ofBits .f32 0x3F000000#32 * (1 + Ideal.tanh (Ideal.ofBits .f32 0x3F4C422A#32 * (y + Ideal.ofBits .f32 0x3D372713#32 * (y * (y * y))))))

theorem IsReal.gelu {y : EReal} (h : IsReal y) : IsReal (gelu y) :=
  h.mul ((half ▸ isReal_coe _ : IsReal _).mul (isReal_one.add (root_two_pi.mul (h.add (cubic.mul (h.mul (h.mul h))))).tanh))

/-- The distance of two points. -/
def gap (p q : Fin 3 → EReal) : EReal :=
  Ideal.sqrt (∑ c, (p c - q c) * (p c - q c) + Ideal.ofBits .f32 0x2B8CBCCC#32)

theorem gap_comm (p q : Fin 3 → EReal) (hp : ∀ c, IsReal (p c)) (hq : ∀ c, IsReal (q c)) : gap p q = gap q p := by
  unfold gap
  rw [Finset.sum_congr rfl fun c _ => (hp c).sub_sq_comm (hq c)]

theorem isReal_gap (p q : Fin 3 → EReal) (hp : ∀ c, IsReal (p c)) (hq : ∀ c, IsReal (q c)) : IsReal (gap p q) := by
  obtain ⟨r, hr, e⟩ := small
  refine IsReal.sqrt ((isReal_sum _ _ fun c => ((hp c).sub (hq c)).mul ((hp c).sub (hq c))).add (e ▸ isReal_coe r)) (add_nonneg ?_ ?_)
  · exact Finset.sum_nonneg fun c _ => sq_nonneg ((hp c).sub (hq c))
  · rw [e]; exact_mod_cast hr.le

/-- Which pairs of points are neighbours: near and distinct. -/
def near {n : ℕ} (p : Fin n → Fin 3 → EReal) (i j : Fin n) : BitVec 1 :=
  IntOp.andi (BitVec.ofBool (decide (gap (p i) (p j) < Ideal.ofBits .f32 0x40000000#32))) (BitVec.ofBool (decide (i ≠ j)))

theorem near_comm {n : ℕ} (p : Fin n → Fin 3 → EReal) (hp : ∀ i c, IsReal (p i c)) (i j : Fin n) : near p i j = near p j i := by
  unfold near
  rw [gap_comm _ _ (hp i) (hp j), decide_eq_decide.mpr (ne_comm (a := i) (b := j))]

/-- A radial feature of a distance. -/
def radial (coef off d : EReal) : EReal := Ideal.exp (coef * ((d - off) * (d - off)))

/-- The logits of the pairs that are neighbours, a large negative number for the others. -/
def maskedLogit {n : ℕ} (nb : Fin n → BitVec 1) (raw : Fin n → EReal) (s : Fin n) : EReal :=
  Scalar.select (nb s) (raw s) (Ideal.ofBits .f32 0xCE6E6B28#32)

/-- The masked exponentials of the logits over their greatest. -/
def expo {n : ℕ} (nb : Fin n → BitVec 1) (raw : Fin n → EReal) (s : Fin n) : EReal :=
  Ideal.exp (maskedLogit nb raw s - Finset.fold max (Ideal.ofBits .f32 0xFF800000#32) (maskedLogit nb raw) Finset.univ) * (if nb s = 1#1 then 1 else 0)

/-- The attention weights over the sources of a target. -/
def attend {n : ℕ} (nb : Fin n → BitVec 1) (raw : Fin n → EReal) (s : Fin n) : EReal :=
  Ideal.div (expo nb raw s) (∑ s, expo nb raw s + Ideal.ofBits .f32 0x24E69595#32)

/-- The exponentials are real whatever the logits are. -/
theorem isReal_expo {n : ℕ} (nb : Fin n → BitVec 1) (raw : Fin n → EReal) (s : Fin n) : IsReal (expo nb raw s) ∧ 0 ≤ expo nb raw s := by
  unfold expo
  obtain ⟨h, h'⟩ := isReal_exp_sub ((Finset.le_fold_max (b := Ideal.ofBits .f32 0xFF800000#32) (maskedLogit nb raw s)).mpr
    (Or.inr ⟨s, Finset.mem_univ s, le_rfl⟩))
  constructor
  · refine h.mul ?_
    split
    · exact isReal_one
    · exact isReal_zero
  · refine mul_nonneg h' ?_
    split <;> simp

theorem isReal_attend {n : ℕ} (nb : Fin n → BitVec 1) (raw : Fin n → EReal) (s : Fin n) : IsReal (attend nb raw s) := by
  obtain ⟨r, hr, e⟩ := tiny
  unfold attend
  rw [e]
  refine (isReal_expo nb raw s).1.div ((isReal_sum _ _ fun s => (isReal_expo nb raw s).1).add (isReal_coe _)) (ne_of_gt ?_)
  exact lt_of_lt_of_le (by exact_mod_cast hr) (le_add_of_nonneg_left (Finset.sum_nonneg fun s _ => (isReal_expo nb raw s).2))

/-- A mark as a number. -/
theorem bit_one : ∀ b : BitVec 1, ((b.setWidth 32).toInt : ℤ) = if b = 1#1 then 1 else 0 := by decide

/-- A small integer as a number. -/
theorem float_small (n : ℕ) (h : n < 2 ^ 31) : (FloatOps.sitofp FTy.f32 (BitVec.ofNat 32 n) : Ideal .f32) = ((n : ℝ) : EReal) := by
  change (((BitVec.ofNat 32 n).toInt : ℝ) : EReal) = _
  have e : (BitVec.ofNat 32 n).toNat = n := by rw [BitVec.toNat_ofNat]; omega
  rw [BitVec.toInt_eq_toNat_of_lt (by omega), e]
  simp

end Cert.Math

end
-- ==== Proof.KernelRead.lean ====
/- What the kernel's steps hold at an index, over the extended reals. -/
module

public import proofs.«01_k».proof.Proof.Stages
public import proofs.«01_k».proof.Proof.Formulas
public import Idealize.ShloMosaic.Lib.Pointwise

@[expose] public section

set_option maxRecDepth 16384

noncomputable section

namespace Cert.KernelIdeal.Stages

open Cert.KernelIdeal Cert.KernelIdeal.Gen Idealize.ShloMosaic Idealize.SL.Sem Cert.Math

/-- A mark turned into a float. -/
theorem mark (b : BitVec 1) : (FloatOps.sitofp FTy.f32 (b.setWidth 32) : Ideal .f32) = if b = 1#1 then 1 else 0 := by
  change (((b.setWidth 32).toInt : ℝ) : EReal) = _
  rw [bit_one]
  split <;> simp

theorem gelu_read {s : Shape} (v : FVec Ideal s .f32) (j : s.Idx) : geluV v j = gelu (v j) := by
  unfold gelu; pointwise [geluV]

theorem latentDist_read (p : FVec Ideal S128x3 .f32) (gp : FVec Ideal S27x3 .f32) (i : Fin 128) (n : Fin 27) :
    latentDistV p gp (ix2 i n) = ∑ c, (p (ix2 i c) - gp (ix2 n c)) * (p (ix2 i c) - gp (ix2 n c)) := by
  rw [Fin.sum_univ_three]; pointwise [latentDistV]

theorem dist_read (p : FVec Ideal S128x3 .f32) (i j : Fin 128) :
    distV p (ix2 i j) = gap (fun c => p (ix2 i c)) (fun c => p (ix2 j c)) := by
  unfold gap; rw [Fin.sum_univ_three]; pointwise [distV]

theorem dense_read (x : FVec Ideal S128x128 .f32) (w : FVec Ideal S1x128x128 .f32) (b : FVec Ideal S1x1x128 .f32) (i j : Fin 128) :
    denseV x w b (ix2 i j) = ∑ k, x (ix2 i k) * w (ix3 0 k j) + b (ix3 0 0 j) := by
  pointwise [denseV]

theorem feat_read (x a s : FVec Ideal S128x128 .f32) (w : FVec Ideal S1x128x128 .f32) (b : FVec Ideal S1x1x128 .f32) (i j : Fin 128) :
    featV x a s w b (ix2 i j) = x (ix2 i j) + gelu (∑ k, (a (ix2 i k) + s (ix2 i k)) * w (ix3 0 k j) + b (ix3 0 0 j)) := by
  unfold featV
  change x (ix2 i j) + geluV (denseV (addf a s) w b) (ix2 i j) = _
  rw [gelu_read, dense_read]; rfl

theorem move_read (p : FVec Ideal S128x3 .f32) (f : FVec Ideal S128x128 .f32) (i : Fin 128) (c : Fin 3) :
    moveV p f (ix2 i c) = p (ix2 i c) + f (ix2 i ⟨c, by omega⟩) := by
  pointwise [moveV]

theorem pass_read (f : FVec Ideal S128x128 .f32) (p : FVec Ideal S128x3 .f32) (i j : Fin 128) :
    passV f p (ix2 i j) = if h : (j : ℕ) < 125 then f (ix2 i j) else p (ix2 i ⟨j - 125, by omega⟩) := by
  pointwise [passV]

theorem finish_read (p : FVec Ideal S128x3 .f32) (x : FVec Ideal S128x128 .f32) (wo : FVec Ideal S128x10 .f32) (bo : FVec Ideal S1x10 .f32)
    (i : Fin 128) (j : Fin 13) :
    finishV p x wo bo (ix2 i j) = if h : (j : ℕ) < 3 then p (ix2 i ⟨j, h⟩)
      else ∑ k, x (ix2 i k) * wo (ix2 k ⟨j - 3, by omega⟩) + bo (ix2 0 ⟨j - 3, by omega⟩) := by
  pointwise [finishV]

theorem radial_read (p : FVec Ideal S128x3 .f32) (offs : FVec Ideal S50x1 .f32) (coef : FVec Ideal S1x1 .f32) (r : Fin 50) (i j : Fin 128) :
    radialV p offs coef (ix3 r i j) = radial (coef (ix2 0 0)) (offs (ix2 r 0)) (distV p (ix2 i j)) := by
  unfold radial; pointwise [radialV]

theorem mask_read (p : FVec Ideal S128x3 .f32) (i j : Fin 128) :
    maskV p (ix2 i j) = IntOp.andi (BitVec.ofBool (decide (distV p (ix2 i j) < Ideal.ofBits .f32 0x40000000#32)))
      (IntOp.cmpi .ne (BitVec.ofNat 32 i) (BitVec.ofNat 32 j)) := by
  pointwise [maskV]

theorem gather_read (al : FVec Ideal S128x128 .f32) (rbf : FVec Ideal S50x128x128 .f32) (v : FVec Ideal S128x32 .f32) (we : FVec Ideal S50x32 .f32)
    (be : FVec Ideal S1x32 .f32) (i : Fin 128) (d : Fin 32) :
    gatherV al rbf v we be (ix2 i d) = ∑ s, al (ix2 s i) * v (ix2 s d) + ∑ r, (∑ s, rbf (ix3 r s i) * al (ix2 s i)) * we (ix2 r d)
      + (∑ s, al (ix2 s i)) * be (ix2 0 d) := by
  pointwise [gatherV]

theorem logit_read (mk : IVec S128x128 1) (rbf : FVec Ideal S50x128x128 .f32) (q k : FVec Ideal S128x32 .f32) (we : FVec Ideal S50x32 .f32)
    (be : FVec Ideal S1x32 .f32) (s t : Fin 128) :
    logitV mk rbf q k we be (ix2 s t) = Scalar.select (mk (ix2 s t)) ((∑ d, k (ix2 s d) * q (ix2 t d)
      + ∑ r, rbf (ix3 r s t) * ∑ d, we (ix2 r d) * q (ix2 t d) + ∑ d, be (ix2 0 d) * q (ix2 t d)) * Named.named κ "inv_sqrt_hd" (φ := .f32) 0x3E3504F3#32)
      (Ideal.ofBits .f32 0xCE6E6B28#32) := by
  pointwise [logitV]

theorem expo_read (mk : IVec S128x128 1) (lg : FVec Ideal S128x128 .f32) (s t : Fin 128) :
    expoV mk lg (ix2 s t) = Ideal.exp (lg (ix2 s t) - Finset.fold max (Ideal.ofBits .f32 0xFF800000#32) (fun s => lg (ix2 s t)) Finset.univ)
      * (if mk (ix2 s t) = 1#1 then 1 else 0) := by
  rw [← mark]; pointwise [expoV, oneHotV]

theorem alpha_read (ex : FVec Ideal S128x128 .f32) (s t : Fin 128) :
    alphaV ex (ix2 s t) = Ideal.div (ex (ix2 s t)) (∑ s, ex (ix2 s t) + Ideal.ofBits .f32 0x24E69595#32) := by
  pointwise [alphaV]

end Cert.KernelIdeal.Stages

end
-- ==== Proof.Head.lean ====
/- One attention head of one target node, the two ways the programs compute it: the kernel keeps the edge features
   apart by radial feature, the reference forms every pair's edge features first. -/
module

public import proofs.«01_k».proof.Proof.Formulas

@[expose] public section

noncomputable section

namespace Cert.Math

open Idealize.ShloMosaic

variable {S R D : ℕ}

/-- The unmasked logits, the query against keys, edge weights and edge bias apart. -/
def rawApart (sc : EReal) (rbf : Fin R → Fin S → EReal) (q : Fin D → EReal) (k : Fin S → Fin D → EReal)
    (we : Fin R → Fin D → EReal) (be : Fin D → EReal) (s : Fin S) : EReal :=
  (∑ d, k s d * q d + ∑ r, rbf r s * ∑ d, we r d * q d + ∑ d, be d * q d) * sc

/-- What the head gathers, values, edge weights and edge bias apart. -/
def headApart (sc : EReal) (nb : Fin S → BitVec 1) (rbf : Fin R → Fin S → EReal) (q : Fin D → EReal) (k v : Fin S → Fin D → EReal)
    (we : Fin R → Fin D → EReal) (be : Fin D → EReal) (d : Fin D) : EReal :=
  ∑ s, attend nb (rawApart sc rbf q k we be) s * v s d
  + ∑ r, (∑ s, rbf r s * attend nb (rawApart sc rbf q k we be) s) * we r d
  + (∑ s, attend nb (rawApart sc rbf q k we be) s) * be d

/-- The edge features of a source. -/
def edge (rbf : Fin R → Fin S → EReal) (we : Fin R → Fin D → EReal) (be : Fin D → EReal) (s : Fin S) (d : Fin D) : EReal :=
  ∑ r, rbf r s * we r d + be d

/-- The unmasked logits, the query against keys and against edge features. -/
def rawEdge (rbf : Fin R → Fin S → EReal) (q : Fin D → EReal) (k : Fin S → Fin D → EReal)
    (we : Fin R → Fin D → EReal) (be : Fin D → EReal) (s : Fin S) : EReal :=
  Ideal.div (∑ d, k s d * q d + ∑ d, edge rbf we be s d * q d) (Ideal.sqrt (Ideal.ofBits .f32 0x42000000#32))

/-- What the head gathers, values and edge features. -/
def headEdge (nb : Fin S → BitVec 1) (rbf : Fin R → Fin S → EReal) (q : Fin D → EReal) (k v : Fin S → Fin D → EReal)
    (we : Fin R → Fin D → EReal) (be : Fin D → EReal) (d : Fin D) : EReal :=
  ∑ s, v s d * attend nb (rawEdge rbf q k we be) s + ∑ s, attend nb (rawEdge rbf q k we be) s * edge rbf we be s d

variable (nb : Fin S → BitVec 1) {rbf : Fin R → Fin S → EReal} {q : Fin D → EReal} {k v : Fin S → Fin D → EReal}
  {we : Fin R → Fin D → EReal} {be : Fin D → EReal}

theorem root_pos : (0 : ℝ) < Real.sqrt 32 := Real.sqrt_pos.mpr (by norm_num)

theorem root_value : Ideal.sqrt (Ideal.ofBits .f32 0x42000000#32) = ((Real.sqrt 32 : ℝ) : EReal) := by
  rw [thirty_two, Ideal.sqrt_coe, if_neg (by norm_num)]

/-- The two forms of the logits agree where everything but the keys is real. -/
theorem raw_eq (hr : ∀ r s, IsReal (rbf r s)) (hq : ∀ d, IsReal (q d))
    (hwe : ∀ r d, IsReal (we r d)) (hbe : ∀ d, IsReal (be d)) :
    rawApart ((1 / Real.sqrt 32 : ℝ) : EReal) rbf q k we be = rawEdge rbf q k we be := by
  funext s
  unfold rawApart rawEdge edge
  rw [root_value, Ideal.div_coe root_pos.ne', logit_split q (k s) be (fun r => rbf r s) we hq hbe (fun r => hr r s) hwe]

/-- The two forms of the head agree where everything but the keys is real. -/
theorem head_eq (hr : ∀ r s, IsReal (rbf r s)) (hq : ∀ d, IsReal (q d)) (hv : ∀ s d, IsReal (v s d))
    (hwe : ∀ r d, IsReal (we r d)) (hbe : ∀ d, IsReal (be d)) (d : Fin D) :
    headApart ((1 / Real.sqrt 32 : ℝ) : EReal) nb rbf q k v we be d = headEdge nb rbf q k v we be d := by
  unfold headApart headEdge
  rw [raw_eq hr hq hwe hbe]
  exact gather_split _ _ rbf (fun r => we r d) (be d) (isReal_attend nb _) (fun s => hv s d) hr (fun r => hwe r d) (hbe d)

theorem isReal_headEdge (hr : ∀ r s, IsReal (rbf r s)) (hv : ∀ s d, IsReal (v s d))
    (hwe : ∀ r d, IsReal (we r d)) (hbe : ∀ d, IsReal (be d)) (d : Fin D) : IsReal (headEdge nb rbf q k v we be d) := by
  have ha := isReal_attend nb (rawEdge rbf q k we be)
  unfold headEdge edge
  exact (isReal_sum _ _ fun s => (hv s d).mul (ha s)).add
    (isReal_sum _ _ fun s => (ha s).mul ((isReal_sum _ _ fun r => (hr r s).mul (hwe r d)).add (hbe d)))

/-- Numbers below a bound within a word are the same when their words are. -/
theorem word_inj {n : ℕ} (hn : n ≤ 2 ^ 32) (i j : Fin n) : BitVec.ofNat 32 (i : ℕ) = BitVec.ofNat 32 (j : ℕ) ↔ i = j := by
  refine ⟨fun h => Fin.ext ?_, fun h => h ▸ rfl⟩
  have := congrArg BitVec.toNat h
  rw [BitVec.toNat_ofNat, BitVec.toNat_ofNat] at this
  omega

theorem word_ne {n : ℕ} (hn : n ≤ 2 ^ 32) (i j : Fin n) :
    IntOp.cmpi .ne (BitVec.ofNat 32 (i : ℕ)) (BitVec.ofNat 32 (j : ℕ)) = BitVec.ofBool (decide (i ≠ j)) := by
  change BitVec.ofBool (BitVec.ofNat 32 (i : ℕ) != BitVec.ofNat 32 (j : ℕ)) = _
  rw [bne, beq_eq_decide, ← decide_not]
  simp only [word_inj hn]

theorem word_not_eq {n : ℕ} (hn : n ≤ 2 ^ 32) (i j : Fin n) :
    ~~~IntOp.cmpi .eq (IntOp.addi (BitVec.ofNat 32 (i : ℕ)) 0#32) (BitVec.ofNat 32 (j : ℕ)) = BitVec.ofBool (decide (i ≠ j)) := by
  rw [← word_ne hn]
  change ~~~BitVec.ofBool (BitVec.ofNat 32 (i : ℕ) + 0#32 == BitVec.ofNat 32 (j : ℕ)) = BitVec.ofBool (BitVec.ofNat 32 (i : ℕ) != BitVec.ofNat 32 (j : ℕ))
  rw [BitVec.add_zero, bne]
  cases (BitVec.ofNat 32 (i : ℕ) == BitVec.ofNat 32 (j : ℕ)) <;> rfl

end Cert.Math

end
-- ==== Proof.KernelHeads.lean ====
/- What the kernel's attention of a layer holds: the head of the target node, at every feature. -/
module

public import proofs.«01_k».proof.Proof.KernelRead
public import proofs.«01_k».proof.Proof.Head

@[expose] public section

set_option maxRecDepth 16384

noncomputable section

namespace Cert.KernelIdeal.Stages

open Cert.KernelIdeal Cert.KernelIdeal.Gen Idealize.ShloMosaic Idealize.SL.Sem Cert.Math

/-- The named scale is one over the root of 32. -/
theorem scale_value : Named.named (F := Ideal) κ "inv_sqrt_hd" (φ := .f32) 0x3E3504F3#32 = ((1 / Real.sqrt 32 : ℝ) : EReal) := by
  rw [one_div]; exact IdealRules.named_const.ideal_named_scalar _ _ _ _ rfl

theorem head_read (mk : IVec S128x128 1) (rbf : FVec Ideal S50x128x128 .f32) (q k v : FVec Ideal S128x32 .f32) (we : FVec Ideal S50x32 .f32)
    (be : FVec Ideal S1x32 .f32) (t : Fin 128) (d : Fin 32) :
    headV mk rbf q k v we be (ix2 t d) = headApart ((1 / Real.sqrt 32 : ℝ) : EReal) (fun s => mk (ix2 s t)) (fun r s => rbf (ix3 r s t))
      (fun d => q (ix2 t d)) (fun s d => k (ix2 s d)) (fun s d => v (ix2 s d)) (fun r d => we (ix2 r d)) (fun d => be (ix2 0 d)) d := by
  unfold headV headApart attend expo maskedLogit rawApart
  simp only [gather_read, alpha_read, expo_read, logit_read, scale_value]

/-- Feature `d` of head `h`. -/
def col (h : Fin 4) (d : Fin 32) : Fin 128 := ⟨h * 32 + d, by omega⟩

theorem four_read (a b c e : FVec Ideal S128x32 .f32) (t : Fin 128) (h : Fin 4) (d : Fin 32) :
    concatenate S128x128 1 [⟨S128x32, a⟩, ⟨S128x32, b⟩, ⟨S128x32, c⟩, ⟨S128x32, e⟩] concatenates_S128x32_S128x32_S128x32_S128x32_S128x128_d1
      (ix2 t (col h d)) = ![a, b, c, e] h (ix2 t d) := by
  fin_cases h <;> pointwise [col]
  · rw [dif_neg (by omega), dif_neg (by omega), dif_pos (by omega)]
    exact congrArg (fun k => c (ix2 t k)) (Fin.ext (by simp only; omega))
  · rw [dif_neg (by omega), dif_neg (by omega), dif_neg (by omega)]
    exact congrArg (fun k => e (ix2 t k)) (Fin.ext (by simp only; omega))

theorem attn_read (mk : IVec S128x128 1) (rbf : FVec Ideal S50x128x128 .f32) (q k v : FVec Ideal S128x128 .f32) (we : FVec Ideal S1x50x128 .f32)
    (be : FVec Ideal S1x1x128 .f32) (t : Fin 128) (h : Fin 4) (d : Fin 32) :
    attnV mk rbf q k v we be (ix2 t (col h d)) = headApart ((1 / Real.sqrt 32 : ℝ) : EReal) (fun s => mk (ix2 s t)) (fun r s => rbf (ix3 r s t))
      (fun d => q (ix2 t (col h d))) (fun s d => k (ix2 s (col h d))) (fun s d => v (ix2 s (col h d)))
      (fun r d => we (ix3 0 r (col h d))) (fun d => be (ix3 0 0 (col h d))) d := by
  unfold attnV
  rw [four_read]
  fin_cases h
  all_goals
    refine (head_read _ _ _ _ _ _ _ _ _).trans ?_
    congr 1 <;> (repeat (refine funext fun _ => ?_)) <;> pointwise [col]

end Cert.KernelIdeal.Stages

end
-- ==== Proof.RefStages.lean ====
/- The reference's computation cut into its steps, as functions of whole arrays, one entry per
   graph along the first axis. A layer is stated once and used for both layers. -/
module

public import proofs.«01_k».proof.Proof.Gen.ReferenceIdeal

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The tanh form of the GELU activation, at every element. -/
def geluR {s : Shape} (hb : S_.BroadcastsInDim s (![] : Fin 0 → Fin s.rank)) (v : FVec F s .f32) : FVec F s .f32 :=
  mulf v (mulf (broadcastInDim s ![] hb (constant S_ .f32 0x3F000000#32)) (addf (broadcastInDim s ![] hb (constant S_ .f32 0x3F800000#32))
    (Host.tanh (mulf (broadcastInDim s ![] hb (constant S_ .f32 0x3F4C422A#32)) (addf v (mulf (broadcastInDim s ![] hb (constant S_ .f32 0x3D372713#32))
      (mulf (mulf v v) v)))))))

/-- The encodings projected onto the 27 latent points of every graph. -/
def upR (enc : FVec F S16x128 .f32) (wup : FVec F S128x3456 .f32) (bup : FVec F S3456 .f32) : FVec F S16x27x128 .f32 :=
  transpose S16x27x128 [0, 2, 1] (shapeCast S16x128x27 (addf (Host.dotGeneral dot_S16x128_S128x3456_S16x3456_1_0_0_1_n_n none enc wup)
    (broadcastInDim S16x3456 ![0, 1] bcast_S1x3456_S16x3456_0_1 (broadcastInDim S1x3456 ![1] bcast_S3456_S1x3456_1 bup)))
    shapeCasts_S16x3456_S16x128x27) transposes_S16x128x27_S16x27x128_0_2_1

/-- The nodes' positions by graph. -/
def posR (p : FVec F S2048x3 .f32) : FVec F S16x128x3 .f32 := shapeCast S16x128x3 p shapeCasts_S2048x3_S16x128x3

/-- The 27 latent points. -/
def latticeR : FVec F S27x3 .f32 := fun i => FloatOps.ofBits .f32 (lit0 (S27x3.rowMajor i))

/-- The negated squared distances of the nodes to the latent points. -/
def negDistR (p : FVec F S2048x3 .f32) : FVec F S16x128x27 .f32 :=
  let e := subf (broadcastInDim S16x128x27x3 ![0, 1, 2, 3] bcast_S16x128x1x3_S16x128x27x3_0_1_2_3 (broadcastInDim S16x128x1x3 ![0, 1, 3] bcast_S16x128x3_S16x128x1x3_0_1_3 (posR p)))
    (broadcastInDim S16x128x27x3 ![0, 1, 2, 3] bcast_S1x1x27x3_S16x128x27x3_0_1_2_3 (broadcastInDim S1x1x27x3 ![2, 3] bcast_S27x3_S1x1x27x3_2_3 latticeR))
  Host.negf (Host.reduceAdd (mulf e e) (constant S_ .f32 0x00000000#32) reducesTo_S16x128x27x3_S16x128x27_d3 h_S_)

/-- The three greatest entries of each row, and where they stand. -/
def topR (nd : FVec F S16x128x27 .f32) : FVec F S16x128x3 .f32 × IVec S16x128x3 32 :=
  Host.topK S16x128x3 2 (FloatOps.cmpfTotal .gt) nd sliceFits_S16x128x27_S16x128x3

/-- The inverse distances of the three nearest latent points. -/
def invR (v : FVec F S16x128x3 .f32) : FVec F S16x128x3 .f32 :=
  Host.divf (broadcastInDim S16x128x3 ![] bcast_S_S16x128x3 (constant S_ .f32 0x3F800000#32))
    (addf (Host.negf v) (broadcastInDim S16x128x3 ![] bcast_S_S16x128x3 (constant S_ .f32 0x24E69595#32)))

/-- The graph numbers, as the gather's first coordinate. -/
def graphIdxR : IVec S16x128x3x1 32 :=
  let i := broadcastInDim S16x1x1 ![0] bcast_S16_S16x1x1_0 (iotaInDim S16 32 0)
  broadcastInDim S16x128x3x1 ![0, 1, 2] bcast_S16x128x3_S16x128x3x1_0_1_2 (broadcastInDim S16x128x3 ![0, 1, 2] bcast_S16x1x1_S16x128x3_0_1_2
    (select (cmpi .slt i (broadcastInDim S16x1x1 ![] bcast_S_S16x1x1 (constantI S_ 32 0#32)))
      (addi i (broadcastInDim S16x1x1 ![] bcast_S_S16x1x1 (constantI S_ 32 16#32))) i))

/-- The latent points' numbers, as the gather's second coordinate. -/
def pointIdxR (ix : IVec S16x128x3 32) : IVec S16x128x3x1 32 :=
  broadcastInDim S16x128x3x1 ![0, 1, 2] bcast_S16x128x3_S16x128x3x1_0_1_2
    (select (cmpi .slt ix (broadcastInDim S16x128x3 ![] bcast_S_S16x128x3 (constantI S_ 32 0#32)))
      (addi ix (broadcastInDim S16x128x3 ![] bcast_S_S16x128x3 (constantI S_ 32 27#32))) ix)

/-- The features of the three nearest latent points of every node. -/
def nearFeatR (g : FVec F S16x27x128 .f32) (ix : IVec S16x128x3 32) : FVec F S16x128x3x128 .f32 :=
  Host.gather gather_S16x27x128_S16x128x3x2_S16x128x3x128_3_01_n_n_01_3_11128 g
    (concatenate S16x128x3x2 3 [⟨S16x128x3x1, graphIdxR⟩, ⟨S16x128x3x1, pointIdxR ix⟩] concatenates_S16x128x3x1_S16x128x3x1_S16x128x3x2_d3)

/-- The mean of the three, weighted by inverse squared distance. -/
def meanR (w : FVec F S16x128x3 .f32) (f : FVec F S16x128x3x128 .f32) : FVec F S2048x128 .f32 :=
  shapeCast S2048x128 (Host.reduceAdd (mulf (broadcastInDim S16x128x3x128 ![0, 1, 2, 3] bcast_S16x128x3x1_S16x128x3x128_0_1_2_3
      (broadcastInDim S16x128x3x1 ![0, 1, 2] bcast_S16x128x3_S16x128x3x1_0_1_2 (Host.divf w
        (broadcastInDim S16x128x3 ![0, 1, 2] bcast_S16x128x1_S16x128x3_0_1_2 (broadcastInDim S16x128x1 ![0, 1] bcast_S16x128_S16x128x1_0_1
          (Host.reduceAdd w (constant S_ .f32 0x00000000#32) reducesTo_S16x128x3_S16x128_d2 h_S_)))))) f)
    (constant S_ .f32 0x00000000#32) reducesTo_S16x128x3x128_S16x128x128_d2 h_S_) shapeCasts_S16x128x128_S2048x128

/-- The features of the nodes before the first layer. -/
def startR (enc : FVec F S16x128 .f32) (p : FVec F S2048x3 .f32) (wup : FVec F S128x3456 .f32) (bup : FVec F S3456 .f32) : FVec F S16x128x128 .f32 :=
  shapeCast S16x128x128 (geluR bcast_S_S2048x128 (meanR (invR (topR (negDistR p)).1)
    (nearFeatR (geluR bcast_S_S16x27x128 (upR enc wup bup)) (topR (negDistR p)).2))) shapeCasts_S2048x128_S16x128x128

/-- The fractions k/49 of the row of offsets. -/
def fracR : FVec F S49 .f32 := Host.divf (sitofp .f32 (iotaInDim S49 32 0)) (broadcastInDim S49 ![] bcast_S_S49 (constant S_ .f32 0x42440000#32))

/-- The 50 evenly spaced radial offsets. -/
def offsetsR : FVec F S50 .f32 :=
  concatenate S50 0 [⟨S49, addf (mulf (broadcastInDim S49 ![0] bcast_S1_S49_0 (shapeCast S1 (id (constant S_ .f32 0x00000000#32)) shapeCasts_S_S1))
      (subf (broadcastInDim S49 ![] bcast_S_S49 (constant S_ .f32 0x3F800000#32)) fracR))
      (mulf (broadcastInDim S49 ![0] bcast_S1_S49_0 (shapeCast S1 (id (constant S_ .f32 0x40000000#32)) shapeCasts_S_S1)) fracR)⟩,
    ⟨S1, broadcastInDim S1 ![] bcast_S_S1 (id (constant S_ .f32 0x40000000#32))⟩] concatenates_S49_S1_S50_d0

/-- The step between offsets. -/
def stepR : FVec F S_ .f32 :=
  subf (shapeCast S_ (extractStridedSlice S1 ![1] offsetsR slices_S50_S1_1) shapeCasts_S1_S_)
    (shapeCast S_ (extractStridedSlice S1 ![0] offsetsR slices_S50_S1_0) shapeCasts_S1_S_)

/-- The coefficient of the radial features. -/
def coefR : FVec F S_ .f32 := Host.divf (constant S_ .f32 0xBF000000#32) (mulf stepR stepR)

/-- The pairs of a node with itself. -/
def eyeR : IVec S128x128 1 :=
  cmpi .eq (addi (iotaInDim S128x128 32 0) (broadcastInDim S128x128 ![] bcast_S_S128x128 (constantI S_ 32 0#32))) (iotaInDim S128x128 32 1)

/-- Distances between the nodes of a graph. -/
def distR (p : FVec F S16x128x3 .f32) : FVec F S16x128x128 .f32 :=
  let e := subf (broadcastInDim S16x128x128x3 ![0, 1, 2, 3] bcast_S16x128x1x3_S16x128x128x3_0_1_2_3 (broadcastInDim S16x128x1x3 ![0, 1, 3] bcast_S16x128x3_S16x128x1x3_0_1_3 p))
    (broadcastInDim S16x128x128x3 ![0, 1, 2, 3] bcast_S16x1x128x3_S16x128x128x3_0_1_2_3 (broadcastInDim S16x1x128x3 ![0, 2, 3] bcast_S16x128x3_S16x1x128x3_0_2_3 p))
  Host.sqrt (addf (Host.reduceAdd (mulf e e) (constant S_ .f32 0x00000000#32) reducesTo_S16x128x128x3_S16x128x128_d3 h_S_)
    (broadcastInDim S16x128x128 ![] bcast_S_S16x128x128 (constant S_ .f32 0x2B8CBCCC#32)))

/-- Which pairs of nodes are neighbours. -/
def maskR (p : FVec F S16x128x3 .f32) : IVec S16x128x128 1 :=
  andi (cmpf .olt (distR p) (broadcastInDim S16x128x128 ![] bcast_S_S16x128x128 (constant S_ .f32 0x40000000#32)))
    (broadcastInDim S16x128x128 ![0, 1, 2] bcast_S1x128x128_S16x128x128_0_1_2 (noti (broadcastInDim S1x128x128 ![1, 2] bcast_S128x128_S1x128x128_1_2 eyeR)))

/-- The radial features of every pair. -/
def radialR (p : FVec F S16x128x3 .f32) : FVec F S16x128x128x50 .f32 :=
  let e := subf (broadcastInDim S16x128x128x50 ![0, 1, 2, 3] bcast_S16x128x128x1_S16x128x128x50_0_1_2_3 (broadcastInDim S16x128x128x1 ![0, 1, 2] bcast_S16x128x128_S16x128x128x1_0_1_2 (distR p)))
    (broadcastInDim S16x128x128x50 ![0, 1, 2, 3] bcast_S1x1x1x50_S16x128x128x50_0_1_2_3 (broadcastInDim S1x1x1x50 ![3] bcast_S50_S1x1x1x50_3 offsetsR))
  Host.exp (mulf (broadcastInDim S16x128x128x50 ![] bcast_S_S16x128x128x50 coefR) (mulf e e))

/-- The edge features of every pair, by head. -/
def edgeR (rbf : FVec F S16x128x128x50 .f32) (we : FVec F S50x128 .f32) (be : FVec F S128 .f32) : FVec F S16x128x128x4x32 .f32 :=
  shapeCast S16x128x128x4x32 (addf (Host.dotGeneral dot_S16x128x128x50_S50x128_S16x128x128x128_3_0_012_1_n_n none rbf we)
    (broadcastInDim S16x128x128x128 ![0, 1, 2, 3] bcast_S1x1x1x128_S16x128x128x128_0_1_2_3 (broadcastInDim S1x1x1x128 ![3] bcast_S128_S1x1x1x128_3 be)))
    shapeCasts_S16x128x128x128_S16x128x128x4x32

/-- A vector of biases, for every node. -/
def biasR (b : FVec F S128 .f32) : FVec F S16x128x128 .f32 :=
  broadcastInDim S16x128x128 ![0, 1, 2] bcast_S1x1x128_S16x128x128_0_1_2 (broadcastInDim S1x1x128 ![2] bcast_S128_S1x1x128_2 b)

/-- A matrix product over the features. -/
def linR (x : FVec F S16x128x128 .f32) (w : FVec F S128x128 .f32) : FVec F S16x128x128 .f32 :=
  Host.dotGeneral dot_S16x128x128_S128x128_S16x128x128_2_0_01_1_n_n none x w

/-- A dense layer, by head. -/
def headsR (x : FVec F S16x128x128 .f32) (w : FVec F S128x128 .f32) (b : FVec F S128 .f32) : FVec F S16x128x4x32 .f32 :=
  shapeCast S16x128x4x32 (addf (linR x w) (biasR b)) shapeCasts_S16x128x128_S16x128x4x32

/-- The attention logits (graph, target, source, head). -/
def logitR (mk : IVec S16x128x128 1) (q k : FVec F S16x128x4x32 .f32) (e : FVec F S16x128x128x4x32 .f32) : FVec F S16x128x128x4 .f32 :=
  select (broadcastInDim S16x128x128x4 ![0, 1, 2, 3] bcast_S16x128x128x1_S16x128x128x4_0_1_2_3 (broadcastInDim S16x128x128x1 ![0, 1, 2] bcast_S16x128x128_S16x128x128x1_0_1_2 mk))
    (Host.divf (addf (transpose S16x128x128x4 [0, 3, 2, 1] (Host.dotGeneral dot_S16x128x4x32_S16x128x4x32_S16x4x128x128_3_3_1_1_02_02 none k q) transposes_S16x4x128x128_S16x128x128x4_0_3_2_1)
      (transpose S16x128x128x4 [0, 1, 3, 2] (Host.dotGeneral dot_S16x128x128x4x32_S16x128x4x32_S16x128x4x128_4_3_2_n_013_012 none e q) transposes_S16x128x4x128_S16x128x128x4_0_1_3_2))
      (broadcastInDim S16x128x128x4 ![] bcast_S_S16x128x128x4 (id (Host.sqrt (constant S_ .f32 0x42000000#32)))))
    (broadcastInDim S16x128x128x4 ![] bcast_S_S16x128x128x4 (id (constant S_ .f32 0xCE6E6B28#32)))

/-- The masked exponentials of the logits. -/
def expoR (mk : IVec S16x128x128 1) (lg : FVec F S16x128x128x4 .f32) : FVec F S16x128x128x4 .f32 :=
  mulf (Host.exp (subf lg (broadcastInDim S16x128x128x4 ![0, 1, 2, 3] bcast_S16x128x1x4_S16x128x128x4_0_1_2_3 (broadcastInDim S16x128x1x4 ![0, 1, 3] bcast_S16x128x4_S16x128x1x4_0_1_3
      (Host.reduce FloatOps.maximumf lg (constant S_ .f32 0xFF800000#32) reducesTo_S16x128x128x4_S16x128x4_d2 h_S_)))))
    (broadcastInDim S16x128x128x4 ![0, 1, 2, 3] bcast_S16x128x128x1_S16x128x128x4_0_1_2_3 (uitofp .f32 (broadcastInDim S16x128x128x1 ![0, 1, 2] bcast_S16x128x128_S16x128x128x1_0_1_2 mk)))

/-- The attention weights. -/
def alphaR (ex : FVec F S16x128x128x4 .f32) : FVec F S16x128x128x4 .f32 :=
  Host.divf ex (broadcastInDim S16x128x128x4 ![0, 1, 2, 3] bcast_S16x128x1x4_S16x128x128x4_0_1_2_3 (addf
    (broadcastInDim S16x128x1x4 ![0, 1, 3] bcast_S16x128x4_S16x128x1x4_0_1_3 (Host.reduceAdd ex (constant S_ .f32 0x00000000#32) reducesTo_S16x128x128x4_S16x128x4_d2 h_S_))
    (broadcastInDim S16x128x1x4 ![] bcast_S_S16x128x1x4 (constant S_ .f32 0x24E69595#32))))

/-- What the heads gather, side by side. -/
def gatherR (al : FVec F S16x128x128x4 .f32) (v : FVec F S16x128x4x32 .f32) (e : FVec F S16x128x128x4x32 .f32) : FVec F S16x128x128 .f32 :=
  shapeCast S16x128x128 (addf (transpose S16x128x4x32 [0, 3, 1, 2] (Host.dotGeneral dot_S16x128x4x32_S16x128x128x4_S16x4x32x128_1_2_3_1_02_03 none v al) transposes_S16x4x32x128_S16x128x4x32_0_3_1_2)
    (Host.dotGeneral dot_S16x128x128x4_S16x128x128x4x32_S16x128x4x32_2_2_n_4_013_013 none al e)) shapeCasts_S16x128x4x32_S16x128x128

/-- The features after a layer's attention, skip connection and residual dense step. -/
def featR (x a : FVec F S16x128x128 .f32) (ws : FVec F S128x128 .f32) (bs : FVec F S128 .f32) (wf : FVec F S128x128 .f32) (bf : FVec F S128 .f32) : FVec F S16x128x128 .f32 :=
  addf x (geluR bcast_S_S16x128x128 (addf (linR (addf (addf a (linR x ws)) (biasR bs)) wf) (biasR bf)))

/-- The features a layer computes from features and positions. -/
def layerR (p : FVec F S16x128x3 .f32) (x : FVec F S16x128x128 .f32)
    (wq : FVec F S128x128 .f32) (bq : FVec F S128 .f32) (wk : FVec F S128x128 .f32) (bk : FVec F S128 .f32)
    (wv : FVec F S128x128 .f32) (bv : FVec F S128 .f32) (we : FVec F S50x128 .f32) (be : FVec F S128 .f32)
    (ws : FVec F S128x128 .f32) (bs : FVec F S128 .f32) (wf : FVec F S128x128 .f32) (bf : FVec F S128 .f32) : FVec F S16x128x128 .f32 :=
  featR x (gatherR (alphaR (expoR (maskR p) (logitR (maskR p) (headsR x wq bq) (headsR x wk bk) (edgeR (radialR p) we be))))
    (headsR x wv bv) (edgeR (radialR p) we be)) ws bs wf bf

/-- The moved positions. -/
def moveR (p : FVec F S16x128x3 .f32) (f : FVec F S16x128x128 .f32) : FVec F S16x128x3 .f32 :=
  addf p (extractStridedSlice S16x128x3 ![0, 0, 0] f slices_S16x128x128_S16x128x3_0_0_0)

/-- The features handed on: the last three are the moved positions. -/
def passR (f : FVec F S16x128x128 .f32) (p : FVec F S16x128x3 .f32) : FVec F S16x128x128 .f32 :=
  concatenate S16x128x128 2 [⟨S16x128x125, extractStridedSlice S16x128x125 ![0, 0, 0] f slices_S16x128x128_S16x128x125_0_0_0⟩, ⟨S16x128x3, p⟩]
    concatenates_S16x128x125_S16x128x3_S16x128x128_d2

/-- Positions laid out flat and back by graph. -/
def rePosR (p : FVec F S16x128x3 .f32) : FVec F S16x128x3 .f32 :=
  shapeCast S16x128x3 (shapeCast S2048x3 p shapeCasts_S16x128x3_S2048x3) shapeCasts_S2048x3_S16x128x3

/-- Features laid out flat and back by graph. -/
def reFeatR (x : FVec F S16x128x128 .f32) : FVec F S16x128x128 .f32 :=
  shapeCast S16x128x128 (shapeCast S2048x128 x shapeCasts_S16x128x128_S2048x128) shapeCasts_S2048x128_S16x128x128

/-- The result: the positions and the projection of the features. -/
def finishR (p : FVec F S16x128x3 .f32) (x : FVec F S16x128x128 .f32) (wo : FVec F S128x10 .f32) (bo : FVec F S10 .f32) : FVec F S2048x13 .f32 :=
  concatenate S2048x13 1 [⟨S2048x3, shapeCast S2048x3 p shapeCasts_S16x128x3_S2048x3⟩, ⟨S2048x10, addf
    (Host.dotGeneral dot_S2048x128_S128x10_S2048x10_1_0_0_1_n_n none (shapeCast S2048x128 x shapeCasts_S16x128x128_S2048x128) wo)
    (broadcastInDim S2048x10 ![0, 1] bcast_S1x10_S2048x10_0_1 (broadcastInDim S1x10 ![1] bcast_S10_S1x10_1 bo))⟩] concatenates_S2048x3_S2048x10_S2048x13_d1

/-- The weights of layer 0 and of layer 1, out of the stacked ones. -/
def matR0 (w : FVec F S2x128x128 .f32) : FVec F S128x128 .f32 :=
  shapeCast S128x128 (extractStridedSlice S1x128x128 ![0, 0, 0] w slices_S2x128x128_S1x128x128_0_0_0) shapeCasts_S1x128x128_S128x128
@[inherit_doc matR0] def matR1 (w : FVec F S2x128x128 .f32) : FVec F S128x128 .f32 :=
  shapeCast S128x128 (extractStridedSlice S1x128x128 ![1, 0, 0] w slices_S2x128x128_S1x128x128_1_0_0) shapeCasts_S1x128x128_S128x128
@[inherit_doc matR0] def vecR0 (b : FVec F S2x128 .f32) : FVec F S128 .f32 :=
  shapeCast S128 (extractStridedSlice S1x128 ![0, 0] b slices_S2x128_S1x128_0_0) shapeCasts_S1x128_S128
@[inherit_doc matR0] def vecR1 (b : FVec F S2x128 .f32) : FVec F S128 .f32 :=
  shapeCast S128 (extractStridedSlice S1x128 ![1, 0] b slices_S2x128_S1x128_1_0) shapeCasts_S1x128_S128
@[inherit_doc matR0] def radR0 (w : FVec F S2x50x128 .f32) : FVec F S50x128 .f32 :=
  shapeCast S50x128 (extractStridedSlice S1x50x128 ![0, 0, 0] w slices_S2x50x128_S1x50x128_0_0_0) shapeCasts_S1x50x128_S50x128
@[inherit_doc matR0] def radR1 (w : FVec F S2x50x128 .f32) : FVec F S50x128 .f32 :=
  shapeCast S50x128 (extractStridedSlice S1x50x128 ![1, 0, 0] w slices_S2x50x128_S1x50x128_1_0_0) shapeCasts_S1x50x128_S50x128

/-- The features layer 0 computes. -/
def first (enc : FVec F S16x128 .f32) (p : FVec F S2048x3 .f32) (wup : FVec F S128x3456 .f32) (bup : FVec F S3456 .f32)
    (wq : FVec F S2x128x128 .f32) (bq : FVec F S2x128 .f32) (wk : FVec F S2x128x128 .f32) (bk : FVec F S2x128 .f32) (wv : FVec F S2x128x128 .f32) (bv : FVec F S2x128 .f32) (we : FVec F S2x50x128 .f32) (be : FVec F S2x128 .f32) (ws : FVec F S2x128x128 .f32) (bs : FVec F S2x128 .f32) (wf : FVec F S2x128x128 .f32) (bf : FVec F S2x128 .f32) : FVec F S16x128x128 .f32 :=
  layerR (posR p) (startR enc p wup bup) (matR0 wq) (vecR0 bq) (matR0 wk) (vecR0 bk) (matR0 wv) (vecR0 bv) (radR0 we) (vecR0 be) (matR0 ws) (vecR0 bs) (matR0 wf) (vecR0 bf)

/-- The features layer 1 computes of the positions and features before the move. -/
def second (p : FVec F S16x128x3 .f32) (f : FVec F S16x128x128 .f32)
    (wq : FVec F S2x128x128 .f32) (bq : FVec F S2x128 .f32) (wk : FVec F S2x128x128 .f32) (bk : FVec F S2x128 .f32) (wv : FVec F S2x128x128 .f32) (bv : FVec F S2x128 .f32) (we : FVec F S2x50x128 .f32) (be : FVec F S2x128 .f32) (ws : FVec F S2x128x128 .f32) (bs : FVec F S2x128 .f32) (wf : FVec F S2x128x128 .f32) (bf : FVec F S2x128 .f32) : FVec F S16x128x128 .f32 :=
  layerR (rePosR (moveR p f)) (reFeatR (passR f (moveR p f))) (matR1 wq) (vecR1 bq) (matR1 wk) (vecR1 bk) (matR1 wv) (vecR1 bv) (radR1 we) (vecR1 be) (matR1 ws) (vecR1 bs) (matR1 wf) (vecR1 bf)

/-- The whole computation. -/
def wholeR (enc : FVec F S16x128 .f32) (p : FVec F S2048x3 .f32) (wup : FVec F S128x3456 .f32) (bup : FVec F S3456 .f32)
    (wq : FVec F S2x128x128 .f32) (bq : FVec F S2x128 .f32) (wk : FVec F S2x128x128 .f32) (bk : FVec F S2x128 .f32) (wv : FVec F S2x128x128 .f32) (bv : FVec F S2x128 .f32) (we : FVec F S2x50x128 .f32) (be : FVec F S2x128 .f32) (ws : FVec F S2x128x128 .f32) (bs : FVec F S2x128 .f32) (wf : FVec F S2x128x128 .f32) (bf : FVec F S2x128 .f32)
    (wo : FVec F S128x10 .f32) (bo : FVec F S10 .f32) : FVec F S2048x13 .f32 :=
  let f0 := first enc p wup bup wq bq wk bk wv bv we be ws bs wf bf
  let f1 := second (posR p) f0 wq bq wk bk wv bv we be ws bs wf bf
  let p2 := moveR (rePosR (moveR (posR p) f0)) f1
  finishR p2 (passR f1 p2) wo bo

end Cert.ReferenceIdeal.Stages
-- ==== Proof.RefRead.lean ====
/- What the reference's steps hold at an index, over the extended reals. -/
module

public import proofs.«01_k».proof.Proof.RefStages
public import proofs.«01_k».proof.Proof.Formulas
public import Idealize.ShloMosaic.Lib.Pointwise

@[expose] public section

set_option maxRecDepth 16384

noncomputable section

namespace Cert.ReferenceIdeal.Stages

open Cert.ReferenceIdeal Cert.ReferenceIdeal.Gen Idealize.ShloMosaic Idealize.SL.Sem Cert.Math

/-- A mark turned into a float. -/
theorem mark : ∀ b : BitVec 1, (FloatOps.uitofp FTy.f32 b : Ideal .f32) = if b = 1#1 then 1 else 0 := by
  intro b
  change ((b.toNat : ℝ) : EReal) = _
  rw [show b.toNat = if b = 1#1 then 1 else 0 by revert b; decide]
  split <;> simp

theorem gelu_read {s : Shape} (hb : S_.BroadcastsInDim s (![] : Fin 0 → Fin s.rank)) (v : FVec Ideal s .f32) (j : s.Idx) :
    geluR hb v j = gelu (v j) := by
  have e : geluR hb v j = v j * (Ideal.ofBits .f32 0x3F000000#32 * (Ideal.ofBits .f32 0x3F800000#32 + Ideal.tanh (Ideal.ofBits .f32 0x3F4C422A#32
      * (v j + Ideal.ofBits .f32 0x3D372713#32 * (v j * v j * v j))))) := rfl
  rw [e, one, mul_assoc (v j) (v j) (v j)]; rfl

theorem up_read (enc : FVec Ideal S16x128 .f32) (wup : FVec Ideal S128x3456 .f32) (bup : FVec Ideal S3456 .f32) (g : Fin 16) (n : Fin 27) (d : Fin 128) :
    upR enc wup bup (ix3 g n d) = ∑ k, enc (ix2 g k) * wup (ix2 k ⟨d * 27 + n, by omega⟩) + bup (ix1 ⟨d * 27 + n, by omega⟩) := by
  pointwise [upR]

theorem pos_read (p : FVec Ideal S2048x3 .f32) (g : Fin 16) (i : Fin 128) (c : Fin 3) :
    posR p (ix3 g i c) = p (ix2 ⟨g * 128 + i, by omega⟩ c) := by
  pointwise [posR]

theorem negDist_read (p : FVec Ideal S2048x3 .f32) (g : Fin 16) (i : Fin 128) (n : Fin 27) :
    negDistR p (ix3 g i n) = -∑ c, (posR p (ix3 g i c) - latticeR (ix2 n c)) * (posR p (ix3 g i c) - latticeR (ix2 n c)) := by
  pointwise [negDistR]

theorem inv_read (v : FVec Ideal S16x128x3 .f32) (g : Fin 16) (i : Fin 128) (n : Fin 3) :
    invR v (ix3 g i n) = Ideal.div 1 (-v (ix3 g i n) + Ideal.ofBits .f32 0x24E69595#32) := by
  pointwise [invR]

theorem start_read (enc : FVec Ideal S16x128 .f32) (p : FVec Ideal S2048x3 .f32) (wup : FVec Ideal S128x3456 .f32) (bup : FVec Ideal S3456 .f32)
    (g : Fin 16) (i d : Fin 128) :
    startR enc p wup bup (ix3 g i d) = gelu (meanR (invR (topR (negDistR p)).1)
      (nearFeatR (geluR bcast_S_S16x27x128 (upR enc wup bup)) (topR (negDistR p)).2) (ix2 ⟨g * 128 + i, by omega⟩ d)) := by
  rw [← gelu_read bcast_S_S2048x128]; pointwise [startR]

theorem mean_read (w : FVec Ideal S16x128x3 .f32) (f : FVec Ideal S16x128x3x128 .f32) (g : Fin 16) (i d : Fin 128) :
    meanR w f (ix2 ⟨g * 128 + i, by omega⟩ d) = ∑ x, Ideal.div (w (ix3 g i x)) (∑ y, w (ix3 g i y)) * f (ix4 g i x d) := by
  have e : meanR w f (ix2 ⟨g * 128 + i, by omega⟩ d) = shapeCast S16x128x128 (meanR w f) shapeCasts_S2048x128_S16x128x128 (ix3 g i d) := by
    pointwise
  rw [e]; pointwise [meanR]

theorem dist_read (p : FVec Ideal S16x128x3 .f32) (g : Fin 16) (i j : Fin 128) :
    distR p (ix3 g i j) = gap (fun c => p (ix3 g i c)) (fun c => p (ix3 g j c)) := by
  unfold gap; pointwise [distR]

theorem mask_read (p : FVec Ideal S16x128x3 .f32) (g : Fin 16) (i j : Fin 128) :
    maskR p (ix3 g i j) = IntOp.andi (BitVec.ofBool (decide (distR p (ix3 g i j) < Ideal.ofBits .f32 0x40000000#32)))
      (~~~IntOp.cmpi .eq (IntOp.addi (BitVec.ofNat 32 i) 0#32) (BitVec.ofNat 32 j)) := by
  pointwise [maskR, eyeR]

theorem radial_read (p : FVec Ideal S16x128x3 .f32) (g : Fin 16) (i j : Fin 128) (r : Fin 50) :
    radialR p (ix4 g i j r) = radial (coefR (F := Ideal) ix0) (offsetsR (F := Ideal) (ix1 r)) (distR p (ix3 g i j)) := by
  unfold radial; pointwise [radialR]

theorem edge_read (rbf : FVec Ideal S16x128x128x50 .f32) (we : FVec Ideal S50x128 .f32) (be : FVec Ideal S128 .f32)
    (g : Fin 16) (i j : Fin 128) (h : Fin 4) (d : Fin 32) :
    edgeR rbf we be (ix5 g i j h d) = ∑ r, rbf (ix4 g i j r) * we (ix2 r ⟨h * 32 + d, by omega⟩) + be (ix1 ⟨h * 32 + d, by omega⟩) := by
  pointwise [edgeR]

theorem heads_read (x : FVec Ideal S16x128x128 .f32) (w : FVec Ideal S128x128 .f32) (b : FVec Ideal S128 .f32)
    (g : Fin 16) (i : Fin 128) (h : Fin 4) (d : Fin 32) :
    headsR x w b (ix4 g i h d) = ∑ k, x (ix3 g i k) * w (ix2 k ⟨h * 32 + d, by omega⟩) + b (ix1 ⟨h * 32 + d, by omega⟩) := by
  pointwise [headsR, linR, biasR]

theorem logit_read (mk : IVec S16x128x128 1) (q k : FVec Ideal S16x128x4x32 .f32) (e : FVec Ideal S16x128x128x4x32 .f32)
    (g : Fin 16) (t s : Fin 128) (h : Fin 4) :
    logitR mk q k e (ix4 g t s h) = Scalar.select (mk (ix3 g t s)) (Ideal.div (∑ d, k (ix4 g s h d) * q (ix4 g t h d)
      + ∑ d, e (ix5 g t s h d) * q (ix4 g t h d)) (Ideal.sqrt (Ideal.ofBits .f32 0x42000000#32))) (Ideal.ofBits .f32 0xCE6E6B28#32) := by
  pointwise [logitR]; rfl

theorem expo_read (mk : IVec S16x128x128 1) (lg : FVec Ideal S16x128x128x4 .f32) (g : Fin 16) (t s : Fin 128) (h : Fin 4) :
    expoR mk lg (ix4 g t s h) = Ideal.exp (lg (ix4 g t s h) - Finset.fold max (Ideal.ofBits .f32 0xFF800000#32) (fun s => lg (ix4 g t s h)) Finset.univ)
      * (if mk (ix3 g t s) = 1#1 then 1 else 0) := by
  rw [← mark]; pointwise [expoR]

theorem alpha_read (ex : FVec Ideal S16x128x128x4 .f32) (g : Fin 16) (t s : Fin 128) (h : Fin 4) :
    alphaR ex (ix4 g t s h) = Ideal.div (ex (ix4 g t s h)) (∑ s, ex (ix4 g t s h) + Ideal.ofBits .f32 0x24E69595#32) := by
  pointwise [alphaR]

end Cert.ReferenceIdeal.Stages

end
-- ==== Proof.RefRead2.lean ====
/- What the reference's remaining steps hold at an index, over the extended reals. -/
module

public import proofs.«01_k».proof.Proof.RefRead

@[expose] public section

set_option maxRecDepth 16384

noncomputable section

namespace Cert.ReferenceIdeal.Stages

open Cert.ReferenceIdeal Cert.ReferenceIdeal.Gen Idealize.ShloMosaic Idealize.SL.Sem Cert.Math

theorem gather_read (al : FVec Ideal S16x128x128x4 .f32) (v : FVec Ideal S16x128x4x32 .f32) (e : FVec Ideal S16x128x128x4x32 .f32)
    (g : Fin 16) (t d : Fin 128) :
    gatherR al v e (ix3 g t d) = ∑ s, v (ix4 g s ⟨d / 32, by omega⟩ ⟨d % 32, by omega⟩) * al (ix4 g t s ⟨d / 32, by omega⟩)
      + ∑ s, al (ix4 g t s ⟨d / 32, by omega⟩) * e (ix5 g t s ⟨d / 32, by omega⟩ ⟨d % 32, by omega⟩) := by
  pointwise [gatherR]

theorem lin_read (x : FVec Ideal S16x128x128 .f32) (w : FVec Ideal S128x128 .f32) (b : FVec Ideal S128 .f32) (g : Fin 16) (i j : Fin 128) :
    addf (linR x w) (biasR b) (ix3 g i j) = ∑ k, x (ix3 g i k) * w (ix2 k j) + b (ix1 j) := by
  pointwise [linR, biasR]

theorem skip_read (x a : FVec Ideal S16x128x128 .f32) (w : FVec Ideal S128x128 .f32) (b : FVec Ideal S128 .f32) (g : Fin 16) (i j : Fin 128) :
    addf (addf a (linR x w)) (biasR b) (ix3 g i j) = a (ix3 g i j) + (∑ k, x (ix3 g i k) * w (ix2 k j) + b (ix1 j)) := by
  rw [← add_assoc]; pointwise [linR, biasR]

theorem feat_read (x a : FVec Ideal S16x128x128 .f32) (ws : FVec Ideal S128x128 .f32) (bs : FVec Ideal S128 .f32) (wf : FVec Ideal S128x128 .f32)
    (bf : FVec Ideal S128 .f32) (g : Fin 16) (i j : Fin 128) :
    featR x a ws bs wf bf (ix3 g i j) = x (ix3 g i j) + gelu (∑ k, (a (ix3 g i k) + (∑ l, x (ix3 g i l) * ws (ix2 l k) + bs (ix1 k))) * wf (ix2 k j)
      + bf (ix1 j)) := by
  unfold featR
  change x (ix3 g i j) + geluR _ (addf (linR (addf (addf a (linR x ws)) (biasR bs)) wf) (biasR bf)) (ix3 g i j) = _
  rw [gelu_read, lin_read]
  simp only [skip_read]

theorem move_read (p : FVec Ideal S16x128x3 .f32) (f : FVec Ideal S16x128x128 .f32) (g : Fin 16) (i : Fin 128) (c : Fin 3) :
    moveR p f (ix3 g i c) = p (ix3 g i c) + f (ix3 g i ⟨c, by omega⟩) := by
  pointwise [moveR]

theorem pass_read (f : FVec Ideal S16x128x128 .f32) (p : FVec Ideal S16x128x3 .f32) (g : Fin 16) (i j : Fin 128) :
    passR f p (ix3 g i j) = if h : (j : ℕ) < 125 then f (ix3 g i j) else p (ix3 g i ⟨j - 125, by omega⟩) := by
  pointwise [passR]

theorem rePos_read (p : FVec Ideal S16x128x3 .f32) (g : Fin 16) (i : Fin 128) (c : Fin 3) : rePosR p (ix3 g i c) = p (ix3 g i c) := by
  pointwise [rePosR]

theorem reFeat_read (x : FVec Ideal S16x128x128 .f32) (g : Fin 16) (i j : Fin 128) : reFeatR x (ix3 g i j) = x (ix3 g i j) := by
  pointwise [reFeatR]

theorem finish_read (p : FVec Ideal S16x128x3 .f32) (x : FVec Ideal S16x128x128 .f32) (wo : FVec Ideal S128x10 .f32) (bo : FVec Ideal S10 .f32)
    (g : Fin 16) (i : Fin 128) (j : Fin 13) :
    finishR p x wo bo (ix2 ⟨g * 128 + i, by omega⟩ j) = if h : (j : ℕ) < 3 then p (ix3 g i ⟨j, h⟩)
      else ∑ k, x (ix3 g i k) * wo (ix2 k ⟨j - 3, by omega⟩) + bo (ix1 ⟨j - 3, by omega⟩) := by
  have a : ((g : ℕ) * 128 + i) / 128 = g := by omega
  have b : ((g : ℕ) * 128 + i) % 128 = i := by omega
  pointwise [finishR]
  all_goals simp only [a, b]

theorem mat0_read (w : FVec Ideal S2x128x128 .f32) (i j : Fin 128) : matR0 w (ix2 i j) = w (ix3 0 i j) := by pointwise [matR0]
theorem mat1_read (w : FVec Ideal S2x128x128 .f32) (i j : Fin 128) : matR1 w (ix2 i j) = w (ix3 1 i j) := by pointwise [matR1]
theorem rad0_read (w : FVec Ideal S2x50x128 .f32) (i : Fin 50) (j : Fin 128) : radR0 w (ix2 i j) = w (ix3 0 i j) := by pointwise [radR0]
theorem rad1_read (w : FVec Ideal S2x50x128 .f32) (i : Fin 50) (j : Fin 128) : radR1 w (ix2 i j) = w (ix3 1 i j) := by pointwise [radR1]
theorem vec0_read (w : FVec Ideal S2x128 .f32) (j : Fin 128) : vecR0 w (ix1 j) = w (ix2 0 j) := by pointwise [vecR0]
theorem vec1_read (w : FVec Ideal S2x128 .f32) (j : Fin 128) : vecR1 w (ix1 j) = w (ix2 1 j) := by pointwise [vecR1]

/-- The radial offsets: `2 r / 49`. -/
theorem offsets_value (r : Fin 50) : offsetsR (F := Ideal) (ix1 r) = ((if (r : ℕ) < 49 then 2 * ((r : ℕ) * (1 / 49)) else 2 : ℝ) : EReal) := by
  pointwise [offsetsR, fracR]
  change (if h : (r : ℕ) < 49 then Ideal.ofBits .f32 0x00000000#32 * _ + Ideal.ofBits .f32 0x40000000#32 * _ else Ideal.ofBits .f32 0x40000000#32) = _
  rw [float_small r (by omega), two, forty_nine, Ideal.div_coe (by norm_num), zero, zero_mul, zero_add]
  split <;> rename_i h
  · rw [EReal.coe_mul, EReal.coe_mul]
  · rfl

/-- Every radial offset is a real number. -/
theorem offsets_real (r : Fin 50) : IsReal (offsetsR (F := Ideal) (ix1 r)) := ⟨_, offsets_value r⟩

/-- So is the radial features' coefficient. -/
theorem coef_real : IsReal (coefR (F := Ideal) ix0) := by
  pointwise [coefR, stepR]
  rw [offsets_value, offsets_value, minus_half, ← EReal.coe_sub, ← EReal.coe_mul]
  exact (isReal_coe _).div (isReal_coe _) (by rw [ne_eq, EReal.coe_eq_zero]; norm_num)

end Cert.ReferenceIdeal.Stages

end
-- ==== Proof.Agree.lean ====
/- One layer of the kernel on one graph is that graph's entry of the reference's layer, where everything is real. -/
module

public import proofs.«01_k».proof.Proof.KernelHeads
public import proofs.«01_k».proof.Proof.RefRead2

@[expose] public section

set_option maxRecDepth 16384

noncomputable section

namespace Cert.Agree

open Idealize.ShloMosaic Cert.Math
open Cert.KernelIdeal.Stages (col)

/-- A layer's matrix, as the kernel's block and as the reference's, its entries real. -/
def Mat (w : FVec Ideal KernelIdeal.S1x128x128 .f32) (w' : FVec Ideal ReferenceIdeal.S128x128 .f32) : Prop :=
  ∀ k j, w (ix3 0 k j) = w' (ix2 k j) ∧ IsReal (w' (ix2 k j))

/-- A layer's biases. -/
def Bias (b : FVec Ideal KernelIdeal.S1x1x128 .f32) (b' : FVec Ideal ReferenceIdeal.S128 .f32) : Prop :=
  ∀ j, b (ix3 0 0 j) = b' (ix1 j) ∧ IsReal (b' (ix1 j))

/-- A layer's edge weights. -/
def Rad (w : FVec Ideal KernelIdeal.S1x50x128 .f32) (w' : FVec Ideal ReferenceIdeal.S50x128 .f32) : Prop :=
  ∀ r j, w (ix3 0 r j) = w' (ix2 r j) ∧ IsReal (w' (ix2 r j))

/-- Graph `g`'s positions. -/
def Pts (g : Fin 16) (p : FVec Ideal KernelIdeal.S128x3 .f32) (p' : FVec Ideal ReferenceIdeal.S16x128x3 .f32) : Prop :=
  ∀ i c, p (ix2 i c) = p' (ix3 g i c) ∧ IsReal (p' (ix3 g i c))

/-- Graph `g`'s features. -/
def Feats (g : Fin 16) (x : FVec Ideal KernelIdeal.S128x128 .f32) (x' : FVec Ideal ReferenceIdeal.S16x128x128 .f32) : Prop :=
  ∀ i j, x (ix2 i j) = x' (ix3 g i j) ∧ IsReal (x' (ix3 g i j))

variable {g : Fin 16} {p : FVec Ideal KernelIdeal.S128x3 .f32} {p' : FVec Ideal ReferenceIdeal.S16x128x3 .f32}
  {x : FVec Ideal KernelIdeal.S128x128 .f32} {x' : FVec Ideal ReferenceIdeal.S16x128x128 .f32}

/-- The kernel's marks of neighbours. -/
theorem near_kernel (p : FVec Ideal KernelIdeal.S128x3 .f32) (s t : Fin 128) :
    KernelIdeal.Stages.maskV p (ix2 s t) = near (fun i c => p (ix2 i c)) s t := by
  rw [KernelIdeal.Stages.mask_read, KernelIdeal.Stages.dist_read, word_ne (by norm_num)]; rfl

/-- The reference's marks of neighbours. -/
theorem near_reference (p' : FVec Ideal ReferenceIdeal.S16x128x3 .f32) (t s : Fin 128) :
    ReferenceIdeal.Stages.maskR p' (ix3 g t s) = near (fun i c => p' (ix3 g i c)) t s := by
  rw [ReferenceIdeal.Stages.mask_read, ReferenceIdeal.Stages.dist_read, word_not_eq (by norm_num)]; rfl

/-- The marks agree, source and target exchanged. -/
theorem mask_eq (hp : Pts g p p') (s t : Fin 128) :
    KernelIdeal.Stages.maskV p (ix2 s t) = ReferenceIdeal.Stages.maskR p' (ix3 g t s) := by
  rw [near_kernel, near_reference, ← near_comm _ (fun i c => (hp i c).2)]
  unfold near
  simp only [(hp _ _).1]

/-- The distances agree, source and target exchanged. -/
theorem dist_eq (hp : Pts g p p') (s t : Fin 128) :
    KernelIdeal.Stages.distV p (ix2 s t) = ReferenceIdeal.Stages.distR p' (ix3 g t s) := by
  rw [KernelIdeal.Stages.dist_read, ReferenceIdeal.Stages.dist_read, gap_comm _ _ (fun c => (hp t c).2) (fun c => (hp s c).2)]
  simp only [(hp _ _).1]

variable {offs : FVec Ideal KernelIdeal.S50x1 .f32} {coef : FVec Ideal KernelIdeal.S1x1 .f32}
  (ho : ∀ r, offs (ix2 r 0) = ReferenceIdeal.Stages.offsetsR (F := Ideal) (ix1 r))
  (hc : coef (ix2 0 0) = ReferenceIdeal.Stages.coefR (F := Ideal) ix0)

include ho hc in
/-- So do the radial features. -/
theorem radial_eq (hp : Pts g p p') (r : Fin 50) (s t : Fin 128) :
    KernelIdeal.Stages.radialV p offs coef (ix3 r s t) = ReferenceIdeal.Stages.radialR p' (ix4 g t s r) := by
  rw [KernelIdeal.Stages.radial_read, ReferenceIdeal.Stages.radial_read, dist_eq hp, ho, hc]

/-- They are real. -/
theorem radial_real (hp : Pts g p p') (r : Fin 50) (s t : Fin 128) : IsReal (ReferenceIdeal.Stages.radialR p' (ix4 g t s r)) := by
  rw [ReferenceIdeal.Stages.radial_read, ReferenceIdeal.Stages.dist_read]
  have hd := isReal_gap (fun c => p' (ix3 g t c)) (fun c => p' (ix3 g s c)) (fun c => (hp t c).2) (fun c => (hp s c).2)
  have he := hd.sub (ReferenceIdeal.Stages.offsets_real r)
  exact (ReferenceIdeal.Stages.coef_real.mul (he.mul he)).exp

/-- A dense layer, at a head's feature. -/
theorem dense_eq (hx : Feats g x x') {w b w' b'} (hw : ∀ k j, w (ix3 0 k j) = w' (ix2 k j)) (hb : ∀ j, b (ix3 0 0 j) = b' (ix1 j)) (i : Fin 128) (h : Fin 4) (d : Fin 32) :
    KernelIdeal.Stages.denseV x w b (ix2 i (col h d)) = ReferenceIdeal.Stages.headsR x' w' b' (ix4 g i h d) := by
  rw [KernelIdeal.Stages.dense_read, ReferenceIdeal.Stages.heads_read]
  simp only [(hx _ _).1, hw, hb]; rfl

theorem dense_real (hx : Feats g x x') {w b w' b'} (hw : Mat w w') (hb : Bias b b') (i : Fin 128) (h : Fin 4) (d : Fin 32) :
    IsReal (ReferenceIdeal.Stages.headsR x' w' b' (ix4 g i h d)) := by
  rw [ReferenceIdeal.Stages.heads_read]
  exact (isReal_sum _ _ fun k => (hx i k).2.mul (hw k _).2).add (hb _).2

/-- The reference's attention of a layer is the head with its edge features, at every feature. -/
theorem attn_reference (mk : IVec ReferenceIdeal.S16x128x128 1) (rbf : FVec Ideal ReferenceIdeal.S16x128x128x50 .f32)
    (q k v : FVec Ideal ReferenceIdeal.S16x128x4x32 .f32) (we : FVec Ideal ReferenceIdeal.S50x128 .f32) (be : FVec Ideal ReferenceIdeal.S128 .f32)
    (t : Fin 128) (h : Fin 4) (d : Fin 32) :
    ReferenceIdeal.Stages.gatherR (ReferenceIdeal.Stages.alphaR (ReferenceIdeal.Stages.expoR mk
      (ReferenceIdeal.Stages.logitR mk q k (ReferenceIdeal.Stages.edgeR rbf we be)))) v (ReferenceIdeal.Stages.edgeR rbf we be) (ix3 g t (col h d))
    = headEdge (fun s => mk (ix3 g t s)) (fun r s => rbf (ix4 g t s r)) (fun d => q (ix4 g t h d)) (fun s d => k (ix4 g s h d))
      (fun s d => v (ix4 g s h d)) (fun r d => we (ix2 r (col h d))) (fun d => be (ix1 (col h d))) d := by
  have eh : (⟨(col h d : ℕ) / 32, by omega⟩ : Fin 4) = h := Fin.ext (by simp only [col]; omega)
  have ed : (⟨(col h d : ℕ) % 32, by omega⟩ : Fin 32) = d := Fin.ext (by simp only [col]; omega)
  rw [ReferenceIdeal.Stages.gather_read, eh, ed]
  unfold headEdge attend expo maskedLogit rawEdge edge
  simp only [ReferenceIdeal.Stages.alpha_read, ReferenceIdeal.Stages.expo_read, ReferenceIdeal.Stages.logit_read, ReferenceIdeal.Stages.edge_read]
  rfl

include ho hc in
/-- The attention of a layer agrees, and is real. -/
theorem attn_eq (hp : Pts g p p') (hx : Feats g x x') {wq bq wk bk wv bv we be wq' bq' wk' bk' wv' bv' we' be'}
    (hwq : Mat wq wq') (hbq : Bias bq bq') (hwk : ∀ k j, wk (ix3 0 k j) = wk' (ix2 k j)) (hbk : ∀ j, bk (ix3 0 0 j) = bk' (ix1 j)) (hwv : Mat wv wv') (hbv : Bias bv bv')
    (hwe : Rad we we') (hbe : Bias be be') :
    Feats g (KernelIdeal.Stages.attnV (KernelIdeal.Stages.maskV p) (KernelIdeal.Stages.radialV p offs coef) (KernelIdeal.Stages.denseV x wq bq)
        (KernelIdeal.Stages.denseV x wk bk) (KernelIdeal.Stages.denseV x wv bv) we be)
      (ReferenceIdeal.Stages.gatherR (ReferenceIdeal.Stages.alphaR (ReferenceIdeal.Stages.expoR (ReferenceIdeal.Stages.maskR p')
        (ReferenceIdeal.Stages.logitR (ReferenceIdeal.Stages.maskR p') (ReferenceIdeal.Stages.headsR x' wq' bq') (ReferenceIdeal.Stages.headsR x' wk' bk')
          (ReferenceIdeal.Stages.edgeR (ReferenceIdeal.Stages.radialR p') we' be')))) (ReferenceIdeal.Stages.headsR x' wv' bv')
        (ReferenceIdeal.Stages.edgeR (ReferenceIdeal.Stages.radialR p') we' be')) := by
  intro t j
  obtain ⟨h, d, rfl⟩ : ∃ h d, j = col h d := ⟨⟨j / 32, by omega⟩, ⟨j % 32, by omega⟩, Fin.ext (by simp only [col]; omega)⟩
  have hr := fun r s => radial_real (s := s) (t := t) hp r
  rw [KernelIdeal.Stages.attn_read, attn_reference]
  simp only [mask_eq hp, radial_eq ho hc hp, dense_eq hx (fun k j => (hwq k j).1) (fun j => (hbq j).1), dense_eq hx hwk hbk,
    dense_eq hx (fun k j => (hwv k j).1) (fun j => (hbv j).1), (hwe _ _).1, (hbe _).1]
  exact ⟨head_eq _ hr (dense_real hx hwq hbq t h) (fun s => dense_real hx hwv hbv s h)
      (fun r d => (hwe r _).2) (fun d => (hbe _).2) d,
    isReal_headEdge _ hr (fun s => dense_real hx hwv hbv s h)
      (fun r d => (hwe r _).2) (fun d => (hbe _).2) d⟩

/-- The dense steps after the attention agree, and are real. -/
theorem feat_eq (hx : Feats g x x') {a a'} (ha : Feats g a a') {ws bs wf bf ws' bs' wf' bf'}
    (hws : Mat ws ws') (hbs : Bias bs bs') (hwf : Mat wf wf') (hbf : Bias bf bf') :
    Feats g (KernelIdeal.Stages.featV x a (KernelIdeal.Stages.denseV x ws bs) wf bf) (ReferenceIdeal.Stages.featR x' a' ws' bs' wf' bf') := by
  intro i j
  rw [KernelIdeal.Stages.feat_read, ReferenceIdeal.Stages.feat_read]
  simp only [KernelIdeal.Stages.dense_read, (hx _ _).1, (ha _ _).1, (hws _ _).1, (hbs _).1, (hwf _ _).1, (hbf _).1]
  refine ⟨trivial, (hx i j).2.add (IsReal.gelu ((isReal_sum _ _ fun k => IsReal.mul ((ha i k).2.add ?_) (hwf k j).2).add (hbf j).2))⟩
  exact (isReal_sum _ _ fun l => (hx i l).2.mul (hws l k).2).add (hbs k).2

include ho hc in
/-- A layer agrees, and is real. -/
theorem layer_eq (hp : Pts g p p') (hx : Feats g x x') {wq bq wk bk wv bv we be ws bs wf bf wq' bq' wk' bk' wv' bv' we' be' ws' bs' wf' bf'}
    (hwq : Mat wq wq') (hbq : Bias bq bq') (hwk : ∀ k j, wk (ix3 0 k j) = wk' (ix2 k j)) (hbk : ∀ j, bk (ix3 0 0 j) = bk' (ix1 j)) (hwv : Mat wv wv') (hbv : Bias bv bv')
    (hwe : Rad we we') (hbe : Bias be be') (hws : Mat ws ws') (hbs : Bias bs bs') (hwf : Mat wf wf') (hbf : Bias bf bf') :
    Feats g (KernelIdeal.Stages.layerV p x offs coef wq bq wk bk wv bv we be ws bs wf bf)
      (ReferenceIdeal.Stages.layerR p' x' wq' bq' wk' bk' wv' bv' we' be' ws' bs' wf' bf') :=
  feat_eq hx (attn_eq ho hc hp hx hwq hbq hwk hbk hwv hbv hwe hbe) hws hbs hwf hbf

/-- The moved positions agree. -/
theorem move_eq (hp : Pts g p p') (hx : Feats g x x') : Pts g (KernelIdeal.Stages.moveV p x) (ReferenceIdeal.Stages.moveR p' x') := by
  intro i c
  rw [KernelIdeal.Stages.move_read, ReferenceIdeal.Stages.move_read, (hp i c).1, (hx i _).1]
  exact ⟨rfl, (hp i c).2.add (hx i _).2⟩

/-- The features handed on agree. -/
theorem pass_eq (hx : Feats g x x') (hp : Pts g p p') : Feats g (KernelIdeal.Stages.passV x p) (ReferenceIdeal.Stages.passR x' p') := by
  intro i j
  rw [KernelIdeal.Stages.pass_read, ReferenceIdeal.Stages.pass_read]
  split
  · exact hx i j
  · exact hp i _

theorem rePos_eq (hp : Pts g p p') : Pts g p (ReferenceIdeal.Stages.rePosR p') := by
  intro i c; rw [ReferenceIdeal.Stages.rePos_read]; exact hp i c

theorem reFeat_eq (hx : Feats g x x') : Feats g x (ReferenceIdeal.Stages.reFeatR x') := by
  intro i c; rw [ReferenceIdeal.Stages.reFeat_read]; exact hx i c

/-- The results agree. -/
theorem finish_eq (hp : Pts g p p') (hx : Feats g x x') {wo : FVec Ideal KernelIdeal.S128x10 .f32} {bo : FVec Ideal KernelIdeal.S1x10 .f32}
    {wo' : FVec Ideal ReferenceIdeal.S128x10 .f32} {bo' : FVec Ideal ReferenceIdeal.S10 .f32}
    (hw : ∀ k j, wo (ix2 k j) = wo' (ix2 k j)) (hb : ∀ j, bo (ix2 0 j) = bo' (ix1 j)) (i : Fin 128) (j : Fin 13) :
    KernelIdeal.Stages.finishV p x wo bo (ix2 i j) = ReferenceIdeal.Stages.finishR p' x' wo' bo' (ix2 ⟨g * 128 + i, by omega⟩ j) := by
  rw [KernelIdeal.Stages.finish_read, ReferenceIdeal.Stages.finish_read]
  simp only [(hx _ _).1, (hp _ _).1, hw, hb]

end Cert.Agree

end
-- ==== Proof.Nearest.lean ====
/- The three nearest of a row of distances: found one after the other, each time the first of the least ones is struck
   out, they are the first three of the row sorted stably. -/
module

public import proofs.«01_k».proof.Proof.Formulas
public import Idealize.ShloMosaic.Lib.SortPrefix

@[expose] public section

noncomputable section

namespace Cert.Math

open Idealize.ShloMosaic

variable {n : ℕ}

/-- Place `a` is the first of a row's least entries. -/
def IsFirst (f : Fin n → EReal) (a : Fin n) : Prop := ∀ x, f a < f x ∨ (f a = f x ∧ a ≤ x)

theorem exists_first [NeZero n] (f : Fin n → EReal) : ∃ a, IsFirst f a := by
  obtain ⟨a, -, h⟩ := Finset.exists_min_image (Finset.univ : Finset (Fin n)) (fun x => toLex (f x, x)) ⟨0, Finset.mem_univ _⟩
  exact ⟨a, fun x => (Prod.Lex.le_iff.mp (h x (Finset.mem_univ _)))⟩

/-- The first of a row's least entries. -/
def firstOf [NeZero n] (f : Fin n → EReal) : Fin n := Classical.choose (exists_first f)

theorem firstOf_spec [NeZero n] (f : Fin n → EReal) : IsFirst f (firstOf f) := Classical.choose_spec (exists_first f)

/-- The row with a place put out of the running. -/
def strike (f : Fin n → EReal) (a : Fin n) : Fin n → EReal := fun x => if x = a then ⊤ else f x

theorem IsFirst.le {f : Fin n → EReal} {a : Fin n} (h : IsFirst f a) (x : Fin n) : f a ≤ f x := by
  rcases h x with h | h
  · exact h.le
  · exact h.1.le

/-- The least of a row is its entry at the first place. -/
theorem IsFirst.fold {f : Fin n → EReal} {a : Fin n} (h : IsFirst f a) : Finset.fold min ⊤ f Finset.univ = f a := by
  refine le_antisymm ?_ ?_
  · exact (Finset.fold_min_le _).mpr (Or.inr ⟨a, Finset.mem_univ _, le_rfl⟩)
  · exact (Finset.le_fold_min _).mpr ⟨le_top, fun x _ => h.le x⟩

/-- The least of the numbers of the places that hold the row's least is the first of them. -/
theorem IsFirst.number {f : Fin n → EReal} {a : Fin n} (h : IsFirst f a) (b : ℝ) (hb : (n : ℝ) ≤ b) :
    Finset.fold min ⊤ (fun x : Fin n => if f x = f a then (((x : ℕ) : ℝ) : EReal) else (b : EReal)) Finset.univ = (((a : ℕ) : ℝ) : EReal) := by
  refine le_antisymm ?_ ?_
  · exact (Finset.fold_min_le _).mpr (Or.inr ⟨a, Finset.mem_univ _, by simp⟩)
  · refine (Finset.le_fold_min _).mpr ⟨le_top, fun x _ => ?_⟩
    split
    · rename_i e
      rcases h x with h | h
      · exact absurd e h.ne'
      · have := h.2; exact_mod_cast this
    · have : ((a : ℕ) : ℝ) ≤ b := le_trans (by exact_mod_cast a.isLt.le) hb
      exact_mod_cast this

/-- The three nearest places. -/
def nearest [NeZero n] (f : Fin n → EReal) : Fin 3 → Fin n :=
  let a := firstOf f
  let b := firstOf (strike f a)
  ![a, b, firstOf (strike (strike f a) b)]

theorem nearest_zero [NeZero n] (f : Fin n → EReal) : nearest f 0 = firstOf f := rfl
theorem nearest_one [NeZero n] (f : Fin n → EReal) : nearest f 1 = firstOf (strike f (nearest f 0)) := rfl
theorem nearest_two [NeZero n] (f : Fin n → EReal) : nearest f 2 = firstOf (strike (strike f (nearest f 0)) (nearest f 1)) := rfl

/-- Place `a` comes before place `b`: a lesser entry, or the same one earlier. -/
def before (f : Fin n → EReal) (a b : Fin n) : Bool := decide (f a < f b) || (decide (f a = f b) && decide (a < b))

theorem before_strict (f : Fin n → EReal) : StrictTotalBefore (before f) :=
  StrictTotalBefore.of_key_then_position (fun x y => decide (x < y)) f (by simp) (fun a b c h h' => by
    simp only [decide_eq_true_eq] at h h' ⊢; exact h.trans h') (fun a b => by
    simp only [decide_eq_true_eq]; exact lt_trichotomy a b)

theorem IsFirst.before {f : Fin n → EReal} {a : Fin n} (h : IsFirst f a) (x : Fin n) (hx : x ≠ a) : before f a x = true := by
  simp only [Math.before, Bool.or_eq_true, Bool.and_eq_true, decide_eq_true_eq]
  rcases h x with h | h
  · exact Or.inl h
  · exact Or.inr ⟨h.1, lt_of_le_of_ne h.2 (Ne.symm hx)⟩

/-- A struck place is not the first, as long as some entry is not infinite. -/
theorem IsFirst.ne_of_top {f : Fin n → EReal} {a b : Fin n} (h : IsFirst f b) (ha : f a = ⊤) (hx : ∃ x, f x ≠ ⊤) : b ≠ a := by
  rintro rfl
  obtain ⟨x, hx⟩ := hx
  exact hx (top_le_iff.mp (ha ▸ h.le x))

/-- Where neither place is struck, a struck row orders them as the row does. -/
theorem before_strike (f : Fin n → EReal) (a x y : Fin n) (hx : x ≠ a) (hy : y ≠ a) : before (strike f a) x y = before f x y := by
  simp only [Math.before, strike, if_neg hx, if_neg hy]

theorem sort_eq_aux (f : Fin n → EReal) (l : List (Fin n)) (hl : l.Pairwise (· < ·)) :
    stableSort (fun k k' => decide (f k < f k')) l = stableSort (before f) l := by
  induction l with
  | nil => rfl
  | cons a l ih =>
    rw [List.pairwise_cons] at hl
    unfold stableSort
    rw [ih hl.2]
    refine insertBefore_congr _ _ _ _ fun b hb => ?_
    have hab := hl.1 b ((perm_stableSort _ l).mem_iff.mp hb)
    simp [Math.before, not_lt_of_gt hab]

/-- A stable sort of the places by their entries orders the equal ones by place. -/
theorem sortedFrom_eq (f : Fin n → EReal) (k : Fin n) : sortedFrom (fun k k' => decide (f k < f k')) k = sortedFrom (before f) k := by
  have e : sortPositions n (fun k k' => decide (f k < f k')) = sortPositions n (before f) :=
    sort_eq_aux f _ (List.pairwise_lt_finRange n)
  have get_eq (l l' : List (Fin n)) (e : l = l') (h : n = l.length) (h' : n = l'.length) : l.get (k.cast h) = l'.get (k.cast h') := by
    subst e; rfl
  exact get_eq _ _ e _ _

variable (f : Fin 27 → EReal) (hf : ∀ x, IsReal (f x))
include hf

theorem nearest_facts : nearest f 1 ≠ nearest f 0 ∧ nearest f 2 ≠ nearest f 0 ∧ nearest f 2 ≠ nearest f 1
    ∧ (∀ x, x ≠ nearest f 0 → before f (nearest f 0) x = true)
    ∧ (∀ x, x ≠ nearest f 0 → x ≠ nearest f 1 → before f (nearest f 1) x = true)
    ∧ (∀ x, x ≠ nearest f 0 → x ≠ nearest f 1 → x ≠ nearest f 2 → before f (nearest f 2) x = true) := by
  have h0 := firstOf_spec f
  have h1 := firstOf_spec (strike f (firstOf f))
  have h2 := firstOf_spec (strike (strike f (firstOf f)) (firstOf (strike f (firstOf f))))
  change IsFirst f (nearest f 0) at h0
  change IsFirst (strike f (nearest f 0)) (nearest f 1) at h1
  change IsFirst (strike (strike f (nearest f 0)) (nearest f 1)) (nearest f 2) at h2
  have other : ∀ a b : Fin 27, ∃ x, x ≠ a ∧ x ≠ b := by decide
  obtain ⟨x, hx0, hx1⟩ := other (nearest f 0) (nearest f 1)
  have t1 : ∃ x, strike f (nearest f 0) x ≠ ⊤ := ⟨x, by simp only [strike, if_neg hx0]; exact (hf x).ne_top⟩
  have t2 : ∃ x, strike (strike f (nearest f 0)) (nearest f 1) x ≠ ⊤ :=
    ⟨x, by simp only [strike, if_neg hx0, if_neg hx1]; exact (hf x).ne_top⟩
  have n10 : nearest f 1 ≠ nearest f 0 := h1.ne_of_top (by simp [strike]) t1
  have n20 : nearest f 2 ≠ nearest f 0 := h2.ne_of_top (by simp [strike]) t2
  have n21 : nearest f 2 ≠ nearest f 1 := h2.ne_of_top (by simp [strike]) t2
  refine ⟨n10, n20, n21, fun x hx => h0.before x hx, fun x hx hx' => ?_, fun x hx hx' hx'' => ?_⟩
  · rw [← before_strike f (nearest f 0) _ _ n10 hx]; exact h1.before x hx'
  · rw [← before_strike f (nearest f 0) _ _ n20 hx, ← before_strike _ (nearest f 1) _ _ n21 hx']; exact h2.before x hx''

/-- The three nearest are the first three of the sorted places. -/
theorem sorted_nearest (i : Fin 3) : sortedFrom (fun k k' => decide (f k < f k')) (i.castLE (by norm_num : 3 ≤ 27)) = nearest f i := by
  obtain ⟨n10, n20, n21, b0, b1, b2⟩ := nearest_facts f hf
  rw [sortedFrom_eq]
  refine (before_strict f).sortedFrom_eq_of_prefix _ (nearest f) ?_ ?_ ?_ i
  · intro i j h
    fin_cases i <;> fin_cases j <;> first | rfl | exact absurd h n10 | exact absurd h n20 | exact absurd h n21 | exact absurd h.symm n10 | exact absurd h.symm n20 | exact absurd h.symm n21
  · intro i j h
    refine (before_strict f).asymm _ _ ?_
    fin_cases i <;> fin_cases j <;> first | exact b0 _ n10 | exact b0 _ n20 | exact b1 _ n20 n21 | exact absurd h (by decide)
  · intro i p h
    refine (before_strict f).asymm _ _ ?_
    have h0 := (h 0).symm; have h1 := (h 1).symm; have h2 := (h 2).symm
    fin_cases i
    · exact b0 p h0
    · exact b1 p h0 h1
    · exact b2 p h0 h1 h2

end Cert.Math

end
-- ==== Proof.KernelStart.lean ====
/- What the kernel's interpolation onto the nodes holds: the mean of the three nearest latent points' features, weighted
   by inverse squared distance. -/
module

public import proofs.«01_k».proof.Proof.KernelRead
public import proofs.«01_k».proof.Proof.Nearest

@[expose] public section

set_option maxRecDepth 16384

noncomputable section

namespace Cert.Math

open Idealize.ShloMosaic

/-- The inverse of a distance. -/
def inverse (d : EReal) : EReal := Ideal.div 1 (d + Ideal.ofBits .f32 0x24E69595#32)

/-- The weight of the `k`-th nearest. -/
def weight (f : Fin 27 → EReal) (k : Fin 3) : EReal := Ideal.div (inverse (f (nearest f k))) (∑ k, inverse (f (nearest f k)))

theorem inverse_real (d : EReal) (h : IsReal d) (h0 : 0 ≤ d) : ∃ r : ℝ, 0 < r ∧ inverse d = (r : EReal) := by
  obtain ⟨d, rfl⟩ := h
  obtain ⟨e, he, e'⟩ := tiny
  have hd : 0 < d + e := by have : (0 : ℝ) ≤ d := by exact_mod_cast h0
                            linarith
  refine ⟨1 / (d + e), by positivity, ?_⟩
  unfold inverse
  rw [e', ← EReal.coe_add, Ideal.div_coe hd.ne', one_mul]

theorem weight_real (f : Fin 27 → EReal) (hf : ∀ x, IsReal (f x)) (h0 : ∀ x, 0 ≤ f x) (k : Fin 3) : IsReal (weight f k) := by
  choose r hr e using fun k => inverse_real (f (nearest f k)) (hf _) (h0 _)
  unfold weight
  simp only [e]
  refine (isReal_coe _).div (isReal_sum _ _ fun k => isReal_coe _) ?_
  rw [← coe_sum, ne_eq, EReal.coe_eq_zero]
  exact (Finset.sum_pos (fun k _ => hr k) ⟨0, Finset.mem_univ _⟩).ne'

end Cert.Math

namespace Cert.KernelIdeal.Stages

open Cert.KernelIdeal Cert.KernelIdeal.Gen Idealize.ShloMosaic Idealize.SL.Sem Cert.Math

/-- The named mark of a struck place is infinite. -/
theorem taken_value : Named.named (F := Ideal) κ "taken" (φ := .f32) 0x7149F2CA#32 = ⊤ :=
  IdealRules.named_const.ideal_named_scalar _ _ _ _ rfl

/-- A node's row. -/
abbrev row (d : FVec Ideal S128x27 .f32) (i : Fin 128) : Fin 27 → EReal := fun x => d (ix2 i x)

theorem rowMin_read (d : FVec Ideal S128x27 .f32) (i : Fin 128) : rowMinV d (ix2 i 0) = row d i (firstOf (row d i)) := by
  rw [← (firstOf_spec (row d i)).fold, ← top]; pointwise [rowMinV]

theorem first_read (d : FVec Ideal S128x27 .f32) (i : Fin 128) (j : Fin 27) :
    firstV d (ix2 i j) = BitVec.ofBool (decide (j = firstOf (row d i))) := by
  have h := firstOf_spec (row d i)
  have e : firstV d (ix2 i j) = BitVec.ofBool (decide ((FloatOps.sitofp FTy.f32 (BitVec.ofNat 32 j) : Ideal .f32)
      = Finset.fold min (Ideal.ofBits .f32 0x7F800000#32) (fun x : Fin 27 => if d (ix2 i x) = Finset.fold min (Ideal.ofBits .f32 0x7F800000#32) (fun x => d (ix2 i x)) Finset.univ
          then (FloatOps.sitofp FTy.f32 (BitVec.ofNat 32 x) : Ideal .f32) else Ideal.ofBits .f32 0x41D80000#32) Finset.univ)) := by
    pointwise [firstV, rowMinV, colsV]
  rw [e, top, h.fold, float_small j (by omega)]
  simp only [fun x : Fin 27 => float_small x (by omega), twenty_seven]
  rw [h.number 27 (by norm_num), decide_eq_decide.mpr]
  rw [EReal.coe_eq_coe_iff, Nat.cast_inj, Fin.ext_iff]

theorem struck_read (d : FVec Ideal S128x27 .f32) (i : Fin 128) : row (struckV d) i = strike (row d i) (firstOf (row d i)) := by
  funext j
  have e : struckV d (ix2 i j) = Scalar.select (firstV d (ix2 i j)) (Named.named κ "taken" (φ := .f32) 0x7149F2CA#32) (d (ix2 i j)) := rfl
  change struckV d (ix2 i j) = _
  rw [e, first_read, taken_value]
  unfold strike Scalar.select
  by_cases hj : j = firstOf (row d i) <;> simp [hj]

theorem weight_read (d : FVec Ideal S128x27 .f32) (i : Fin 128) : weightV d (ix2 i 0) = inverse (row d i (firstOf (row d i))) := by
  rw [← rowMin_read]; unfold inverse; pointwise [weightV]

theorem one_hot (d : FVec Ideal S128x27 .f32) (i : Fin 128) (j : Fin 27) :
    oneHotV (F := Ideal) (firstV d) (ix2 i j) = if j = firstOf (row d i) then 1 else 0 := by
  change (FloatOps.sitofp FTy.f32 ((firstV d (ix2 i j)).setWidth 32) : Ideal .f32) = _
  rw [mark, first_read]
  by_cases hj : j = firstOf (row d i) <;> simp [hj]

theorem mix_form (d : FVec Ideal S128x27 .f32) (i : Fin 128) (j : Fin 27) :
    mixV d (ix2 i j) = oneHotV (firstV d) (ix2 i j) * Ideal.div (weightV d (ix2 i 0))
        (weightV d (ix2 i 0) + weightV (struckV d) (ix2 i 0) + weightV (struckV (struckV d)) (ix2 i 0))
      + oneHotV (firstV (struckV d)) (ix2 i j) * Ideal.div (weightV (struckV d) (ix2 i 0))
        (weightV d (ix2 i 0) + weightV (struckV d) (ix2 i 0) + weightV (struckV (struckV d)) (ix2 i 0))
      + oneHotV (firstV (struckV (struckV d))) (ix2 i j) * Ideal.div (weightV (struckV (struckV d)) (ix2 i 0))
        (weightV d (ix2 i 0) + weightV (struckV d) (ix2 i 0) + weightV (struckV (struckV d)) (ix2 i 0)) := by
  unfold mixV
  generalize weightV d = w1, weightV (struckV d) = w2, weightV (struckV (struckV d)) = w3, firstV d = c1, firstV (struckV d) = c2,
    firstV (struckV (struckV d)) = c3
  generalize oneHotV (F := Ideal) c1 = o1, oneHotV (F := Ideal) c2 = o2, oneHotV (F := Ideal) c3 = o3
  pointwise

theorem strike_one (f : Fin 27 → EReal) (hf : ∀ x, IsReal (f x)) : strike f (nearest f 0) (nearest f 1) = f (nearest f 1) :=
  if_neg (nearest_facts f hf).1

theorem strike_two (f : Fin 27 → EReal) (hf : ∀ x, IsReal (f x)) :
    strike (strike f (nearest f 0)) (nearest f 1) (nearest f 2) = f (nearest f 2) :=
  (if_neg (nearest_facts f hf).2.2.1).trans (if_neg (nearest_facts f hf).2.1)

theorem mix_read (d : FVec Ideal S128x27 .f32) (i : Fin 128) (j : Fin 27) (hf : ∀ x, IsReal (row d i x)) :
    mixV d (ix2 i j) = (if j = nearest (row d i) 0 then 1 else 0) * weight (row d i) 0
      + (if j = nearest (row d i) 1 then 1 else 0) * weight (row d i) 1 + (if j = nearest (row d i) 2 then 1 else 0) * weight (row d i) 2 := by
  rw [mix_form, one_hot, one_hot, one_hot, weight_read, weight_read, weight_read, struck_read (struckV d), struck_read d]
  unfold weight
  rw [Fin.sum_univ_three]
  generalize row d i = f at hf ⊢
  rw [← nearest_zero, ← nearest_one, ← nearest_two, strike_one f hf, strike_two f hf]

/-- The features the nodes start with. -/
theorem start_read (gf : FVec Ideal S27x128 .f32) (d : FVec Ideal S128x27 .f32) (i j : Fin 128) (hf : ∀ x, IsReal (row d i x)) (h0 : ∀ x, 0 ≤ row d i x)
    (hg : ∀ n, IsReal (gf (ix2 n j))) :
    startV gf d (ix2 i j) = gelu (∑ k, weight (row d i) k * gf (ix2 (nearest (row d i) k) j)) := by
  have hw := weight_real _ hf h0
  rw [Fin.sum_univ_three, ← pick_three _ _ _ _ _ _ (fun n => gf (ix2 n j)) (hw 0) (hw 1) (hw 2) hg]
  simp only [← mix_read d i _ hf]
  unfold startV
  rw [gelu_read]
  congr 1
  generalize mixV d = m
  pointwise

theorem latent_read (enc : FVec Ideal S1x1x128 .f32) (wup : FVec Ideal S128x3456 .f32) (bup : FVec Ideal S1x3456 .f32) (n : Fin 27) (d : Fin 128) :
    latentV enc wup bup (ix2 n d) = gelu (∑ k, enc (ix3 0 0 k) * wup (ix2 k ⟨n * 128 + d, by omega⟩) + bup (ix2 0 ⟨n * 128 + d, by omega⟩)) := by
  unfold gelu; pointwise [latentV, geluV]

end Cert.KernelIdeal.Stages

end
-- ==== Proof.RefTop.lean ====
/- Where the reference finds the three nearest latent points, and what it gathers there. -/
module

public import proofs.«01_k».proof.Proof.RefRead
public import proofs.«01_k».proof.Proof.Nearest

@[expose] public section

set_option maxRecDepth 16384

noncomputable section

namespace Cert.ReferenceIdeal.Stages

open Cert.ReferenceIdeal Cert.ReferenceIdeal.Gen Idealize.ShloMosaic Idealize.SL.Sem Cert.Math

/-- Going along a row changes the last coordinate. -/
theorem along_row (g : Fin 16) (i : Fin 128) (k n : Fin 27) : (ix3 g i k : S16x128x27.Idx).along 2 n = ix3 g i n := by
  funext a
  fin_cases a <;> rfl

/-- The order of the negated distances is that of the distances, the other way. -/
theorem greater_neg (x y : EReal) : (FloatOps.cmpfTotal (F := Ideal) (φ := .f32) .gt (-x) (-y) == 1#1) = decide (x < y) := by
  change (BitVec.ofBool (decide (-y < -x)) == 1#1) = _
  simp only [EReal.neg_lt_neg_iff]
  by_cases h : x < y <;> simp [h]

/-- The first three of each row. -/
theorem first_three {α : Type} (g : Fin 16) (i : Fin 128) (k : Fin 3) (v : S16x128x27.Idx → α) (h : S16x128x27.Slices (fun _ => 0) S16x128x3) :
    extractStridedSlice S16x128x3 (fun _ => 0) v h (ix3 g i k) = v (ix3 g i (k.castLE (by norm_num : 3 ≤ 27))) := by
  unfold extractStridedSlice
  refine congrArg v (funext fun a => Fin.ext ?_)
  fin_cases a <;> simp <;> rfl

/-- Every row sorted, the greatest first, with the places. -/
def sorted (nd : FVec Ideal S16x128x27 .f32) : FVec Ideal S16x128x27 .f32 × IVec S16x128x27 32 :=
  Host.sort2 S16x128x27 2 (fun l r => FloatOps.cmpfTotal (F := Ideal) (φ := .f32) .gt l.1 r.1) nd (iotaInDim S16x128x27 32 2)

theorem iota_row (g : Fin 16) (i : Fin 128) (m : Fin 27) : iotaInDim S16x128x27 32 2 (ix3 g i m) = BitVec.ofNat 32 m := rfl

/-- Where a row's entries come from. -/
def source (nd : FVec Ideal S16x128x27 .f32) (g : Fin 16) (i : Fin 128) (m : Fin 27) : Fin 27 :=
  sortedFrom (fun m m' : Fin 27 => FloatOps.cmpfTotal (F := Ideal) (φ := .f32) .gt (nd (ix3 g i m)) (nd (ix3 g i m')) == 1#1) m

theorem source_eq (nd : FVec Ideal S16x128x27 .f32) (g : Fin 16) (i : Fin 128) (m : Fin 27) :
    (ix3 g i m : S16x128x27.Idx).along 2 (sortedFrom (fun k k' => FloatOps.cmpfTotal (F := Ideal) (φ := .f32) .gt
      (nd ((ix3 g i m : S16x128x27.Idx).along 2 k)) (nd ((ix3 g i m : S16x128x27.Idx).along 2 k')) == 1#1) m) = ix3 g i (source nd g i m) := by
  refine (along_row g i m _).trans (congrArg (fun R => ix3 g i (sortedFrom R m)) (funext fun k => funext fun k' => ?_))
  exact congrArg₂ (fun a b => FloatOps.cmpfTotal (F := Ideal) (φ := .f32) .gt (nd a) (nd b) == 1#1) (along_row g i m k) (along_row g i m k')

theorem sorted_fst (nd : FVec Ideal S16x128x27 .f32) (g : Fin 16) (i : Fin 128) (m : Fin 27) :
    (sorted nd).1 (ix3 g i m) = nd (ix3 g i (source nd g i m)) := congrArg nd (source_eq nd g i m)

theorem sorted_snd (nd : FVec Ideal S16x128x27 .f32) (g : Fin 16) (i : Fin 128) (m : Fin 27) :
    (sorted nd).2 (ix3 g i m) = BitVec.ofNat 32 (source nd g i m) :=
  (congrArg (iotaInDim S16x128x27 32 2) (source_eq nd g i m)).trans (iota_row g i _)

theorem top_read (nd : FVec Ideal S16x128x27 .f32) (g : Fin 16) (i : Fin 128) (f : Fin 27 → EReal) (hf : ∀ n, IsReal (f n))
    (hnd : ∀ n, nd (ix3 g i n) = -f n) (k : Fin 3) :
    (topR nd).1 (ix3 g i k) = -f (nearest f k) ∧ (topR nd).2 (ix3 g i k) = BitVec.ofNat 32 (nearest f k) := by
  have key : source nd g i (k.castLE (by norm_num : 3 ≤ 27)) = nearest f k := by
    rw [← sorted_nearest f hf k]
    unfold source
    simp only [hnd, greater_neg]
  have e1 : (topR nd).1 (ix3 g i k) = nd (ix3 g i (nearest f k)) := by
    rw [← key, ← sorted_fst nd]
    exact first_three g i k (sorted nd).1 sliceFits_S16x128x27_S16x128x3
  have e2 : (topR nd).2 (ix3 g i k) = BitVec.ofNat 32 (nearest f k) := by
    rw [← key, ← sorted_snd]
    exact first_three g i k (sorted nd).2 sliceFits_S16x128x27_S16x128x3
  exact ⟨e1.trans (hnd _), e2⟩

/-- The gather of one latent point's features for each place of the index array. -/
theorem gather_at (x : FVec Ideal S16x27x128 .f32) (idx : IVec S16x128x3x2 32) (g : Fin 16) (i : Fin 128) (k : Fin 3) (d : Fin 128)
    (a : Fin 16) (b : Fin 27) (ha : idx (ix4 g i k 0) = BitVec.ofNat 32 a) (hb : idx (ix4 g i k 1) = BitVec.ofNat 32 b) :
    Host.gather gather_S16x27x128_S16x128x3x2_S16x128x3x128_3_01_n_n_01_3_11128 x idx (ix4 g i k d) = x (ix3 a b d) := by
  unfold Host.gather
  have s0 : gather_S16x27x128_S16x128x3x2_S16x128x3x128_3_01_n_n_01_3_11128.siIdx (ix4 g i k d) ⟨0, by decide⟩ = ix4 g i k 0 := by
    funext c; fin_cases c <;> rfl
  have s1 : gather_S16x27x128_S16x128x3x2_S16x128x3x128_3_01_n_n_01_3_11128.siIdx (ix4 g i k d) ⟨1, by decide⟩ = ix4 g i k 1 := by
    funext c; fin_cases c <;> rfl
  have small : ∀ n : ℕ, n < 27 → (BitVec.ofNat 32 n).toInt.toNat = n := by decide
  refine congrArg x (funext fun c => Fin.ext ?_)
  fin_cases c
  · change min (idx (gather_S16x27x128_S16x128x3x2_S16x128x3x128_3_01_n_n_01_3_11128.siIdx (ix4 g i k d) ⟨0, by decide⟩)).toInt.toNat 15 + 0 + 0 = a
    rw [s0, ha, small _ (by omega)]; omega
  · change min (idx (gather_S16x27x128_S16x128x3x2_S16x128x3x128_3_01_n_n_01_3_11128.siIdx (ix4 g i k d) ⟨1, by decide⟩)).toInt.toNat 26 + 0 + 0 = b
    rw [s1, hb, small _ (by omega)]; omega
  · change 0 + 0 + (d : ℕ) = d
    omega

theorem graph_word : ∀ g : Fin 16, Scalar.select (IntOp.cmpi .slt (BitVec.ofNat 32 g) 0#32) (IntOp.addi (BitVec.ofNat 32 g) 16#32) (BitVec.ofNat 32 g)
    = BitVec.ofNat 32 g := by decide

theorem point_word : ∀ n : Fin 27, Scalar.select (IntOp.cmpi .slt (BitVec.ofNat 32 n) 0#32) (IntOp.addi (BitVec.ofNat 32 n) 27#32) (BitVec.ofNat 32 n)
    = BitVec.ofNat 32 n := by decide

theorem graphIdx_read (g : Fin 16) (i : Fin 128) (k : Fin 3) : graphIdxR (ix4 g i k 0) = BitVec.ofNat 32 g := by
  rw [← graph_word g]; pointwise [graphIdxR]

theorem pointIdx_read (ix : IVec S16x128x3 32) (g : Fin 16) (i : Fin 128) (k : Fin 3) (b : Fin 27) (h : ix (ix3 g i k) = BitVec.ofNat 32 b) :
    pointIdxR ix (ix4 g i k 0) = BitVec.ofNat 32 b := by
  rw [← point_word b, ← h]; pointwise [pointIdxR]

/-- What is gathered for a place that holds the number of a latent point. -/
theorem nearFeat_read (x : FVec Ideal S16x27x128 .f32) (ix : IVec S16x128x3 32) (g : Fin 16) (i : Fin 128) (k : Fin 3) (d : Fin 128) (b : Fin 27)
    (h : ix (ix3 g i k) = BitVec.ofNat 32 b) : nearFeatR x ix (ix4 g i k d) = x (ix3 g b d) := by
  refine gather_at _ _ _ _ _ _ _ _ ?_ ?_
  · rw [← graphIdx_read g i k]
    generalize graphIdxR = a, pointIdxR ix = c
    pointwise
  · rw [← pointIdx_read ix g i k b h]
    generalize graphIdxR = a, pointIdxR ix = c
    pointwise

end Cert.ReferenceIdeal.Stages

end
-- ==== Proof.StartAgree.lean ====
/- The features the nodes start with agree: the kernel's interpolation on one graph is that graph's entry of the reference's. -/
module

public import proofs.«01_k».proof.Proof.Agree
public import proofs.«01_k».proof.Proof.KernelStart
public import proofs.«01_k».proof.Proof.RefTop

@[expose] public section

set_option maxRecDepth 16384

noncomputable section

namespace Cert.Agree

open Idealize.ShloMosaic Cert.Math

theorem lattice_exponent : ∀ i : Fin 81, ((ReferenceIdeal.lit0 i).extractLsb' 23 8).toNat ≠ 255 := by decide

/-- The latent points' coordinates are real. -/
theorem lattice_real (n : Fin 27) (c : Fin 3) : IsReal (ReferenceIdeal.Stages.latticeR (F := Ideal) (ix2 n c)) :=
  finite_pattern _ (lattice_exponent _)

/-- What the two programs start a graph from: its encoding, its positions, the latent points and the projection onto them. -/
structure Begin (g : Fin 16) (enc : FVec Ideal KernelIdeal.S1x1x128 .f32) (p : FVec Ideal KernelIdeal.S128x3 .f32)
    (gp : FVec Ideal KernelIdeal.S27x3 .f32) (wup : FVec Ideal KernelIdeal.S128x3456 .f32) (bup : FVec Ideal KernelIdeal.S1x3456 .f32)
    (enc' : FVec Ideal ReferenceIdeal.S16x128 .f32) (p' : FVec Ideal ReferenceIdeal.S2048x3 .f32)
    (wup' : FVec Ideal ReferenceIdeal.S128x3456 .f32) (bup' : FVec Ideal ReferenceIdeal.S3456 .f32) : Prop where
  enc_eq : ∀ k, enc (ix3 0 0 k) = enc' (ix2 g k) ∧ IsReal (enc' (ix2 g k))
  pos_eq : Pts g p (ReferenceIdeal.Stages.posR p')
  lat_eq : ∀ n c, gp (ix2 n c) = ReferenceIdeal.Stages.latticeR (F := Ideal) (ix2 n c)
  wup_eq : ∀ k (n : Fin 27) (d : Fin 128), wup (ix2 k ⟨n * 128 + d, by omega⟩) = wup' (ix2 k ⟨d * 27 + n, by omega⟩)
    ∧ IsReal (wup' (ix2 k ⟨d * 27 + n, by omega⟩))
  bup_eq : ∀ (n : Fin 27) (d : Fin 128), bup (ix2 0 ⟨n * 128 + d, by omega⟩) = bup' (ix1 ⟨d * 27 + n, by omega⟩)
    ∧ IsReal (bup' (ix1 ⟨d * 27 + n, by omega⟩))

variable {g : Fin 16} {enc : FVec Ideal KernelIdeal.S1x1x128 .f32} {p : FVec Ideal KernelIdeal.S128x3 .f32}
    {gp : FVec Ideal KernelIdeal.S27x3 .f32} {wup : FVec Ideal KernelIdeal.S128x3456 .f32} {bup : FVec Ideal KernelIdeal.S1x3456 .f32}
    {enc' : FVec Ideal ReferenceIdeal.S16x128 .f32} {p' : FVec Ideal ReferenceIdeal.S2048x3 .f32}
    {wup' : FVec Ideal ReferenceIdeal.S128x3456 .f32} {bup' : FVec Ideal ReferenceIdeal.S3456 .f32}

/-- The latent points' features agree. -/
theorem latent_eq (h : Begin g enc p gp wup bup enc' p' wup' bup') (n : Fin 27) (d : Fin 128) :
    KernelIdeal.Stages.latentV enc wup bup (ix2 n d)
      = ReferenceIdeal.Stages.geluR ReferenceIdeal.Gen.bcast_S_S16x27x128 (ReferenceIdeal.Stages.upR enc' wup' bup') (ix3 g n d)
    ∧ IsReal (KernelIdeal.Stages.latentV enc wup bup (ix2 n d)) := by
  rw [KernelIdeal.Stages.latent_read, ReferenceIdeal.Stages.gelu_read, ReferenceIdeal.Stages.up_read]
  simp only [(h.enc_eq _).1, (h.wup_eq _ _ _).1, (h.bup_eq _ _).1]
  exact ⟨trivial, IsReal.gelu ((isReal_sum _ _ fun k => (h.enc_eq k).2.mul (h.wup_eq k n d).2).add (h.bup_eq n d).2)⟩

/-- The squared distances to the latent points agree, are real and not negative. -/
theorem latentDist_eq (h : Begin g enc p gp wup bup enc' p' wup' bup') (i : Fin 128) (n : Fin 27) :
    ReferenceIdeal.Stages.negDistR p' (ix3 g i n) = -KernelIdeal.Stages.latentDistV p gp (ix2 i n)
    ∧ IsReal (KernelIdeal.Stages.latentDistV p gp (ix2 i n)) ∧ 0 ≤ KernelIdeal.Stages.latentDistV p gp (ix2 i n) := by
  rw [KernelIdeal.Stages.latentDist_read, ReferenceIdeal.Stages.negDist_read]
  simp only [(h.pos_eq _ _).1, h.lat_eq]
  have hr := fun c => (h.pos_eq i c).2.sub (lattice_real n c)
  exact ⟨trivial, isReal_sum _ _ fun c => (hr c).mul (hr c), Finset.sum_nonneg fun c _ => sq_nonneg (hr c)⟩

/-- The features the nodes start with agree, and are real. -/
theorem start_eq (h : Begin g enc p gp wup bup enc' p' wup' bup') :
    Feats g (KernelIdeal.Stages.startV (KernelIdeal.Stages.latentV enc wup bup) (KernelIdeal.Stages.latentDistV p gp))
      (ReferenceIdeal.Stages.startR enc' p' wup' bup') := by
  intro i j
  have hf := fun n => (latentDist_eq h i n).2.1
  have h0 := fun n => (latentDist_eq h i n).2.2
  have ht := ReferenceIdeal.Stages.top_read (ReferenceIdeal.Stages.negDistR p') g i (KernelIdeal.Stages.row (KernelIdeal.Stages.latentDistV p gp) i) hf
    (fun n => (latentDist_eq h i n).1)
  rw [KernelIdeal.Stages.start_read _ _ i j hf h0 (fun n => (latent_eq h n j).2), ReferenceIdeal.Stages.start_read, ReferenceIdeal.Stages.mean_read]
  have e : ∀ k, ReferenceIdeal.Stages.nearFeatR (ReferenceIdeal.Stages.geluR ReferenceIdeal.Gen.bcast_S_S16x27x128 (ReferenceIdeal.Stages.upR enc' wup' bup'))
      (ReferenceIdeal.Stages.topR (ReferenceIdeal.Stages.negDistR p')).2 (ix4 g i k j)
      = KernelIdeal.Stages.latentV enc wup bup (ix2 (nearest (KernelIdeal.Stages.row (KernelIdeal.Stages.latentDistV p gp) i) k) j) := fun k => by
    rw [ReferenceIdeal.Stages.nearFeat_read _ _ _ _ _ _ _ (ht k).2, (latent_eq h _ _).1]
  have w : ∀ k, ReferenceIdeal.Stages.invR (ReferenceIdeal.Stages.topR (ReferenceIdeal.Stages.negDistR p')).1 (ix3 g i k)
      = inverse (KernelIdeal.Stages.row (KernelIdeal.Stages.latentDistV p gp) i (nearest (KernelIdeal.Stages.row (KernelIdeal.Stages.latentDistV p gp) i) k)) := fun k => by
    rw [ReferenceIdeal.Stages.inv_read, (ht k).1, neg_neg]; rfl
  simp only [e, w]
  have r := isReal_sum Finset.univ _ fun k => (weight_real _ hf h0 k).mul (latent_eq h (nearest (KernelIdeal.Stages.row (KernelIdeal.Stages.latentDistV p gp) i) k) j).2
  exact ⟨rfl, r.gelu⟩

end Cert.Agree

end
-- ==== Proof.Whole.lean ====
/- The whole computation of one graph: the kernel's and the reference's results agree row by row. -/
module

public import proofs.«01_k».proof.Proof.StartAgree

@[expose] public section

set_option maxRecDepth 16384

noncomputable section

namespace Cert.Agree

open Idealize.ShloMosaic Cert.Math
open Cert.ReferenceIdeal.Stages (matR0 matR1 vecR0 vecR1 radR0 radR1)

/-- A layer's twelve parameters agree, the kernel's blocks with the reference's arrays. -/
structure Layer (wq : FVec Ideal KernelIdeal.S1x128x128 .f32) (bq : FVec Ideal KernelIdeal.S1x1x128 .f32) (wk : FVec Ideal KernelIdeal.S1x128x128 .f32) (bk : FVec Ideal KernelIdeal.S1x1x128 .f32)
    (wv : FVec Ideal KernelIdeal.S1x128x128 .f32) (bv : FVec Ideal KernelIdeal.S1x1x128 .f32) (we : FVec Ideal KernelIdeal.S1x50x128 .f32) (be : FVec Ideal KernelIdeal.S1x1x128 .f32)
    (ws : FVec Ideal KernelIdeal.S1x128x128 .f32) (bs : FVec Ideal KernelIdeal.S1x1x128 .f32) (wf : FVec Ideal KernelIdeal.S1x128x128 .f32) (bf : FVec Ideal KernelIdeal.S1x1x128 .f32)
    (wq' : FVec Ideal ReferenceIdeal.S128x128 .f32) (bq' : FVec Ideal ReferenceIdeal.S128 .f32) (wk' : FVec Ideal ReferenceIdeal.S128x128 .f32) (bk' : FVec Ideal ReferenceIdeal.S128 .f32)
    (wv' : FVec Ideal ReferenceIdeal.S128x128 .f32) (bv' : FVec Ideal ReferenceIdeal.S128 .f32) (we' : FVec Ideal ReferenceIdeal.S50x128 .f32) (be' : FVec Ideal ReferenceIdeal.S128 .f32)
    (ws' : FVec Ideal ReferenceIdeal.S128x128 .f32) (bs' : FVec Ideal ReferenceIdeal.S128 .f32) (wf' : FVec Ideal ReferenceIdeal.S128x128 .f32) (bf' : FVec Ideal ReferenceIdeal.S128 .f32) : Prop where
  hwq : Mat wq wq'
  hbq : Bias bq bq'
  hwk : ∀ k j, wk (ix3 0 k j) = wk' (ix2 k j)
  hbk : ∀ j, bk (ix3 0 0 j) = bk' (ix1 j)
  hwv : Mat wv wv'
  hbv : Bias bv bv'
  hwe : Rad we we'
  hbe : Bias be be'
  hws : Mat ws ws'
  hbs : Bias bs bs'
  hwf : Mat wf wf'
  hbf : Bias bf bf'

variable {g : Fin 16} {enc : FVec Ideal KernelIdeal.S1x1x128 .f32} {p : FVec Ideal KernelIdeal.S128x3 .f32}
    {gp : FVec Ideal KernelIdeal.S27x3 .f32} {wup : FVec Ideal KernelIdeal.S128x3456 .f32} {bup : FVec Ideal KernelIdeal.S1x3456 .f32}
    {enc' : FVec Ideal ReferenceIdeal.S16x128 .f32} {p' : FVec Ideal ReferenceIdeal.S2048x3 .f32}
    {wup' : FVec Ideal ReferenceIdeal.S128x3456 .f32} {bup' : FVec Ideal ReferenceIdeal.S3456 .f32}
    {offs : FVec Ideal KernelIdeal.S50x1 .f32} {coef : FVec Ideal KernelIdeal.S1x1 .f32}

/-- From agreeing blocks the kernel computes graph `g`'s rows of the reference's result. -/
theorem whole_eq (h : Begin g enc p gp wup bup enc' p' wup' bup')
    (ho : ∀ r, offs (ix2 r 0) = ReferenceIdeal.Stages.offsetsR (F := Ideal) (ix1 r))
    (hc : coef (ix2 0 0) = ReferenceIdeal.Stages.coefR (F := Ideal) ix0)
    {wq0 bq0 wk0 bk0 wv0 bv0 we0 be0 ws0 bs0 wf0 bf0 wq1 bq1 wk1 bk1 wv1 bv1 we1 be1 ws1 bs1 wf1 bf1 wq bq wk bk wv bv we be ws bs wf bf}
    (h0 : Layer wq0 bq0 wk0 bk0 wv0 bv0 we0 be0 ws0 bs0 wf0 bf0 (matR0 wq) (vecR0 bq) (matR0 wk) (vecR0 bk) (matR0 wv) (vecR0 bv) (radR0 we) (vecR0 be) (matR0 ws) (vecR0 bs) (matR0 wf) (vecR0 bf))
    (h1 : Layer wq1 bq1 wk1 bk1 wv1 bv1 we1 be1 ws1 bs1 wf1 bf1 (matR1 wq) (vecR1 bq) (matR1 wk) (vecR1 bk) (matR1 wv) (vecR1 bv) (radR1 we) (vecR1 be) (matR1 ws) (vecR1 bs) (matR1 wf) (vecR1 bf))
    {wo : FVec Ideal KernelIdeal.S128x10 .f32} {bo : FVec Ideal KernelIdeal.S1x10 .f32}
    {wo' : FVec Ideal ReferenceIdeal.S128x10 .f32} {bo' : FVec Ideal ReferenceIdeal.S10 .f32}
    (hw : ∀ k j, wo (ix2 k j) = wo' (ix2 k j)) (hb : ∀ j, bo (ix2 0 j) = bo' (ix1 j)) (i : Fin 128) (j : Fin 13) :
    KernelIdeal.Stages.oneGraph enc p gp offs coef wup bup wq0 bq0 wk0 bk0 wv0 bv0 we0 be0 ws0 bs0 wf0 bf0 wq1 bq1 wk1 bk1 wv1 bv1 we1 be1 ws1 bs1 wf1 bf1 wo bo (ix2 i j)
      = ReferenceIdeal.Stages.wholeR enc' p' wup' bup' wq bq wk bk wv bv we be ws bs wf bf wo' bo' (ix2 ⟨g * 128 + i, by omega⟩ j) := by
  have f0 := layer_eq ho hc h.pos_eq (start_eq h) h0.hwq h0.hbq h0.hwk h0.hbk h0.hwv h0.hbv h0.hwe h0.hbe h0.hws h0.hbs h0.hwf h0.hbf
  have p1 := move_eq h.pos_eq f0
  have p1' := rePos_eq p1
  have f1 := layer_eq ho hc p1' (reFeat_eq (pass_eq f0 p1)) h1.hwq h1.hbq h1.hwk h1.hbk h1.hwv h1.hbv h1.hwe h1.hbe h1.hws h1.hbs h1.hwf h1.hbf
  have p2 := move_eq p1' f1
  exact finish_eq p2 (pass_eq f1 p2) hw hb i j

end Cert.Agree

end
-- ==== Proof.Loads.lean ====
/- The body's loads: a slice of a block, read at an index. -/
module

public import proofs.«01_k».proof.Proof.Gen.KernelIdeal.Frame
public import Idealize.ShloMosaic.Lib.Pointwise

@[expose] public section

set_option maxRecDepth 16384

noncomputable section

namespace Cert.KernelIdeal.Loads

open Cert.KernelIdeal Cert.KernelIdeal.Gen Idealize.ShloMosaic Idealize.ShloMosaic.TcCoe Idealize.SL.Sem

theorem ld0 (x : Vec Ideal S2x1x128 .f32) (k : Fin 128) : (View.ld x r0_0 : FVec Ideal S1x1x128 .f32) (ix3 0 0 k) = x (ix3 0 0 k) := by pointwise
theorem ld10 (x : Vec Ideal S2x1x128 .f32) (k : Fin 128) : (View.ld x r0_10 : FVec Ideal S1x1x128 .f32) (ix3 0 0 k) = x (ix3 1 0 k) := by pointwise
theorem ld1 (x : Vec Ideal S256x3 .f32) (i : Fin 128) (k : Fin 3) : (View.ld x r0_1 : FVec Ideal S128x3 .f32) (ix2 i k) = x (ix2 ⟨i, by omega⟩ k) := by pointwise
theorem ld15 (x : Vec Ideal S256x3 .f32) (i : Fin 128) (k : Fin 3) : (View.ld x r0_15 : FVec Ideal S128x3 .f32) (ix2 i k) = x (ix2 ⟨128 + i, by omega⟩ k) := by pointwise
theorem ld2 (x : Vec Ideal S27x3 .f32) (n : Fin 27) (k : Fin 3) : (View.ld x r0_2 : FVec Ideal S27x3 .f32) (ix2 n k) = x (ix2 n k) := by pointwise
theorem ld3 (x : Vec Ideal S128x3456 .f32) (i : Fin 128) (k : Fin 3456) : (View.ld x r0_3 : FVec Ideal S128x3456 .f32) (ix2 i k) = x (ix2 i k) := by pointwise
theorem ld4 (x : Vec Ideal S1x3456 .f32) (k : Fin 3456) : (View.ld x r0_4 : FVec Ideal S1x3456 .f32) (ix2 0 k) = x (ix2 0 k) := by pointwise
theorem ld5 (x : Vec Ideal S50x1 .f32) (r : Fin 50) : (View.ld x r0_5 : FVec Ideal S50x1 .f32) (ix2 r 0) = x (ix2 r 0) := by pointwise
theorem ld6 (x : Vec Ideal S1x1 .f32) : (View.ld x r0_6 : FVec Ideal S1x1 .f32) (ix2 0 0) = x (ix2 0 0) := by pointwise
theorem ld7 (x : Vec Ideal S2x128x128 .f32) (i k : Fin 128) : (View.ld x r0_7 : FVec Ideal S1x128x128 .f32) (ix3 0 i k) = x (ix3 0 i k) := by pointwise
theorem ld9 (x : Vec Ideal S2x128x128 .f32) (i k : Fin 128) : (View.ld x r0_9 : FVec Ideal S1x128x128 .f32) (ix3 0 i k) = x (ix3 1 i k) := by pointwise
theorem ld8 (x : Vec Ideal S2x50x128 .f32) (r : Fin 50) (k : Fin 128) : (View.ld x r0_8 : FVec Ideal S1x50x128 .f32) (ix3 0 r k) = x (ix3 0 r k) := by pointwise
theorem ld11 (x : Vec Ideal S2x50x128 .f32) (r : Fin 50) (k : Fin 128) : (View.ld x r0_11 : FVec Ideal S1x50x128 .f32) (ix3 0 r k) = x (ix3 1 r k) := by pointwise
theorem ld12 (x : Vec Ideal S128x10 .f32) (i : Fin 128) (k : Fin 10) : (View.ld x r0_12 : FVec Ideal S128x10 .f32) (ix2 i k) = x (ix2 i k) := by pointwise
theorem ld13 (x : Vec Ideal S1x10 .f32) (k : Fin 10) : (View.ld x r0_13 : FVec Ideal S1x10 .f32) (ix2 0 k) = x (ix2 0 k) := by pointwise

end Cert.KernelIdeal.Loads

end
-- ==== Proof.Graph.lean ====
/- One graph, from the arrays the body finds in its blocks: what it computes is the graph's rows of the reference's result. -/
module

public import proofs.«01_k».proof.Proof.Whole
public import proofs.«01_k».proof.Proof.Loads

@[expose] public section

set_option maxRecDepth 16384

noncomputable section

namespace Cert.KernelIdeal.Graph

open Cert.KernelIdeal Cert.KernelIdeal.Gen Cert.KernelIdeal.Loads Idealize.ShloMosaic Cert.Math Cert.Agree
open Cert.ReferenceIdeal.Stages (matR0 matR1 vecR0 vecR1 radR0 radR1 mat0_read mat1_read vec0_read vec1_read rad0_read rad1_read)

/-- The arguments whose elements are real. -/
structure Reals (a0 : FVec Ideal S16x128 .f32) (a1 : FVec Ideal S2048x3 .f32) (a4 : FVec Ideal S128x3456 .f32) (a5 : FVec Ideal S3456 .f32) (a6 : FVec Ideal S2x128x128 .f32) (a7 : FVec Ideal S2x128 .f32) (a10 : FVec Ideal S2x128x128 .f32) (a11 : FVec Ideal S2x128 .f32) (a12 : FVec Ideal S2x50x128 .f32) (a13 : FVec Ideal S2x128 .f32) (a14 : FVec Ideal S2x128x128 .f32) (a15 : FVec Ideal S2x128 .f32) (a16 : FVec Ideal S2x128x128 .f32) (a17 : FVec Ideal S2x128 .f32) : Prop where
  r0 : ∀ i, IsReal (a0 i)
  r1 : ∀ i, IsReal (a1 i)
  r4 : ∀ i, IsReal (a4 i)
  r5 : ∀ i, IsReal (a5 i)
  r6 : ∀ i, IsReal (a6 i)
  r7 : ∀ i, IsReal (a7 i)
  r10 : ∀ i, IsReal (a10 i)
  r11 : ∀ i, IsReal (a11 i)
  r12 : ∀ i, IsReal (a12 i)
  r13 : ∀ i, IsReal (a13 i)
  r14 : ∀ i, IsReal (a14 i)
  r15 : ∀ i, IsReal (a15 i)
  r16 : ∀ i, IsReal (a16 i)
  r17 : ∀ i, IsReal (a17 i)

/-- The whole arrays the body finds are the arguments, re-laid, and the constants of the computation. -/
structure Held (x2 : Vec Ideal S27x3 .f32) (x3 : Vec Ideal S50x1 .f32) (x4 : Vec Ideal S1x1 .f32) (x5 : Vec Ideal S128x3456 .f32) (x6 : Vec Ideal S1x3456 .f32) (x7 : Vec Ideal S2x128x128 .f32) (x8 : Vec Ideal S2x1x128 .f32) (x9 : Vec Ideal S2x128x128 .f32) (x10 : Vec Ideal S2x1x128 .f32) (x11 : Vec Ideal S2x128x128 .f32) (x12 : Vec Ideal S2x1x128 .f32) (x13 : Vec Ideal S2x50x128 .f32) (x14 : Vec Ideal S2x1x128 .f32) (x15 : Vec Ideal S2x128x128 .f32) (x16 : Vec Ideal S2x1x128 .f32) (x17 : Vec Ideal S2x128x128 .f32) (x18 : Vec Ideal S2x1x128 .f32) (x19 : Vec Ideal S128x10 .f32) (x20 : Vec Ideal S1x10 .f32)
    (a4 : FVec Ideal S128x3456 .f32) (a5 : FVec Ideal S3456 .f32) (a6 : FVec Ideal S2x128x128 .f32) (a7 : FVec Ideal S2x128 .f32) (a8 : FVec Ideal S2x128x128 .f32) (a9 : FVec Ideal S2x128 .f32) (a10 : FVec Ideal S2x128x128 .f32) (a11 : FVec Ideal S2x128 .f32) (a12 : FVec Ideal S2x50x128 .f32) (a13 : FVec Ideal S2x128 .f32) (a14 : FVec Ideal S2x128x128 .f32) (a15 : FVec Ideal S2x128 .f32) (a16 : FVec Ideal S2x128x128 .f32) (a17 : FVec Ideal S2x128 .f32) (a18 : FVec Ideal S128x10 .f32) (a19 : FVec Ideal S10 .f32) : Prop where
  h2 : ∀ n k, x2 (ix2 n k) = ReferenceIdeal.Stages.latticeR (F := Ideal) (ix2 n k)
  h3 : ∀ r, x3 (ix2 r 0) = ReferenceIdeal.Stages.offsetsR (F := Ideal) (ix1 r)
  h4 : x4 (ix2 0 0) = ReferenceIdeal.Stages.coefR (F := Ideal) ix0
  h5 : ∀ k (n : Fin 27) (d : Fin 128), x5 (ix2 k ⟨n * 128 + d, by omega⟩) = a4 (ix2 k ⟨d * 27 + n, by omega⟩)
  h6 : ∀ (n : Fin 27) (d : Fin 128), x6 (ix2 0 ⟨n * 128 + d, by omega⟩) = a5 (ix1 ⟨d * 27 + n, by omega⟩)
  h7 : x7 = a6
  h8 : ∀ l j, x8 (ix3 l 0 j) = a7 (ix2 l j)
  h9 : x9 = a8
  h10 : ∀ l j, x10 (ix3 l 0 j) = a9 (ix2 l j)
  h11 : x11 = a10
  h12 : ∀ l j, x12 (ix3 l 0 j) = a11 (ix2 l j)
  h13 : x13 = a12
  h14 : ∀ l j, x14 (ix3 l 0 j) = a13 (ix2 l j)
  h15 : x15 = a14
  h16 : ∀ l j, x16 (ix3 l 0 j) = a15 (ix2 l j)
  h17 : x17 = a16
  h18 : ∀ l j, x18 (ix3 l 0 j) = a17 (ix2 l j)
  h19 : x19 = a18
  h20 : ∀ j, x20 (ix2 0 j) = a19 (ix1 j)

variable {x2 : Vec Ideal S27x3 .f32} {x3 : Vec Ideal S50x1 .f32} {x4 : Vec Ideal S1x1 .f32} {x5 : Vec Ideal S128x3456 .f32} {x6 : Vec Ideal S1x3456 .f32} {x7 : Vec Ideal S2x128x128 .f32} {x8 : Vec Ideal S2x1x128 .f32} {x9 : Vec Ideal S2x128x128 .f32} {x10 : Vec Ideal S2x1x128 .f32} {x11 : Vec Ideal S2x128x128 .f32} {x12 : Vec Ideal S2x1x128 .f32} {x13 : Vec Ideal S2x50x128 .f32} {x14 : Vec Ideal S2x1x128 .f32} {x15 : Vec Ideal S2x128x128 .f32} {x16 : Vec Ideal S2x1x128 .f32} {x17 : Vec Ideal S2x128x128 .f32} {x18 : Vec Ideal S2x1x128 .f32} {x19 : Vec Ideal S128x10 .f32} {x20 : Vec Ideal S1x10 .f32}
  {a0 : FVec Ideal S16x128 .f32} {a1 : FVec Ideal S2048x3 .f32} {a4 : FVec Ideal S128x3456 .f32} {a5 : FVec Ideal S3456 .f32} {a6 : FVec Ideal S2x128x128 .f32} {a7 : FVec Ideal S2x128 .f32} {a8 : FVec Ideal S2x128x128 .f32} {a9 : FVec Ideal S2x128 .f32} {a10 : FVec Ideal S2x128x128 .f32} {a11 : FVec Ideal S2x128 .f32} {a12 : FVec Ideal S2x50x128 .f32} {a13 : FVec Ideal S2x128 .f32} {a14 : FVec Ideal S2x128x128 .f32} {a15 : FVec Ideal S2x128 .f32} {a16 : FVec Ideal S2x128x128 .f32} {a17 : FVec Ideal S2x128 .f32} {a18 : FVec Ideal S128x10 .f32} {a19 : FVec Ideal S10 .f32}

/-- Layer 0's parameters. -/
theorem layer0 (R : Reals a0 a1 a4 a5 a6 a7 a10 a11 a12 a13 a14 a15 a16 a17) (B : Held x2 x3 x4 x5 x6 x7 x8 x9 x10 x11 x12 x13 x14 x15 x16 x17 x18 x19 x20 a4 a5 a6 a7 a8 a9 a10 a11 a12 a13 a14 a15 a16 a17 a18 a19) :
    Layer (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0)
      (matR0 a6) (vecR0 a7) (matR0 a8) (vecR0 a9) (matR0 a10) (vecR0 a11) (radR0 a12) (vecR0 a13) (matR0 a14) (vecR0 a15) (matR0 a16) (vecR0 a17) :=
  ⟨fun k j => by rw [ld7, mat0_read, B.h7]; exact ⟨rfl, R.r6 _⟩,
    fun j => by rw [ld0, vec0_read, B.h8]; exact ⟨rfl, R.r7 _⟩,
    fun k j => by rw [ld7, mat0_read, B.h9],
    fun j => by rw [ld0, vec0_read, B.h10],
    fun k j => by rw [ld7, mat0_read, B.h11]; exact ⟨rfl, R.r10 _⟩,
    fun j => by rw [ld0, vec0_read, B.h12]; exact ⟨rfl, R.r11 _⟩,
    fun k j => by rw [ld8, rad0_read, B.h13]; exact ⟨rfl, R.r12 _⟩,
    fun j => by rw [ld0, vec0_read, B.h14]; exact ⟨rfl, R.r13 _⟩,
    fun k j => by rw [ld7, mat0_read, B.h15]; exact ⟨rfl, R.r14 _⟩,
    fun j => by rw [ld0, vec0_read, B.h16]; exact ⟨rfl, R.r15 _⟩,
    fun k j => by rw [ld7, mat0_read, B.h17]; exact ⟨rfl, R.r16 _⟩,
    fun j => by rw [ld0, vec0_read, B.h18]; exact ⟨rfl, R.r17 _⟩⟩

/-- Layer 1's parameters. -/
theorem layer1 (R : Reals a0 a1 a4 a5 a6 a7 a10 a11 a12 a13 a14 a15 a16 a17) (B : Held x2 x3 x4 x5 x6 x7 x8 x9 x10 x11 x12 x13 x14 x15 x16 x17 x18 x19 x20 a4 a5 a6 a7 a8 a9 a10 a11 a12 a13 a14 a15 a16 a17 a18 a19) :
    Layer (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10)
      (matR1 a6) (vecR1 a7) (matR1 a8) (vecR1 a9) (matR1 a10) (vecR1 a11) (radR1 a12) (vecR1 a13) (matR1 a14) (vecR1 a15) (matR1 a16) (vecR1 a17) :=
  ⟨fun k j => by rw [ld9, mat1_read, B.h7]; exact ⟨rfl, R.r6 _⟩,
    fun j => by rw [ld10, vec1_read, B.h8]; exact ⟨rfl, R.r7 _⟩,
    fun k j => by rw [ld9, mat1_read, B.h9],
    fun j => by rw [ld10, vec1_read, B.h10],
    fun k j => by rw [ld9, mat1_read, B.h11]; exact ⟨rfl, R.r10 _⟩,
    fun j => by rw [ld10, vec1_read, B.h12]; exact ⟨rfl, R.r11 _⟩,
    fun k j => by rw [ld11, rad1_read, B.h13]; exact ⟨rfl, R.r12 _⟩,
    fun j => by rw [ld10, vec1_read, B.h14]; exact ⟨rfl, R.r13 _⟩,
    fun k j => by rw [ld9, mat1_read, B.h15]; exact ⟨rfl, R.r14 _⟩,
    fun j => by rw [ld10, vec1_read, B.h16]; exact ⟨rfl, R.r15 _⟩,
    fun k j => by rw [ld9, mat1_read, B.h17]; exact ⟨rfl, R.r16 _⟩,
    fun j => by rw [ld10, vec1_read, B.h18]; exact ⟨rfl, R.r17 _⟩⟩

/-- A graph's encoding and positions, the latent points and the projection onto them. -/
theorem begins (R : Reals a0 a1 a4 a5 a6 a7 a10 a11 a12 a13 a14 a15 a16 a17) (B : Held x2 x3 x4 x5 x6 x7 x8 x9 x10 x11 x12 x13 x14 x15 x16 x17 x18 x19 x20 a4 a5 a6 a7 a8 a9 a10 a11 a12 a13 a14 a15 a16 a17 a18 a19) (g : Fin 16)
    (enc : FVec Ideal S1x1x128 .f32) (p : FVec Ideal S128x3 .f32)
    (he : ∀ k, enc (ix3 0 0 k) = a0 (ix2 g k)) (hp : ∀ (i : Fin 128) k, p (ix2 i k) = a1 (ix2 ⟨g * 128 + i, by omega⟩ k)) :
    Begin g enc p (View.ld x2 r0_2) (View.ld x5 r0_3) (View.ld x6 r0_4) a0 a1 a4 a5 :=
  ⟨fun k => ⟨he k, R.r0 _⟩,
    fun i k => by rw [ReferenceIdeal.Stages.pos_read, hp]; exact ⟨rfl, R.r1 _⟩,
    fun n k => by rw [ld2, B.h2],
    fun k n d => by rw [ld3, B.h5]; exact ⟨rfl, R.r4 _⟩,
    fun n d => by rw [ld4, B.h6]; exact ⟨rfl, R.r5 _⟩⟩

/-- What the body computes of a graph. -/
theorem graph (R : Reals a0 a1 a4 a5 a6 a7 a10 a11 a12 a13 a14 a15 a16 a17) (B : Held x2 x3 x4 x5 x6 x7 x8 x9 x10 x11 x12 x13 x14 x15 x16 x17 x18 x19 x20 a4 a5 a6 a7 a8 a9 a10 a11 a12 a13 a14 a15 a16 a17 a18 a19) (g : Fin 16)
    (enc : FVec Ideal S1x1x128 .f32) (p : FVec Ideal S128x3 .f32)
    (he : ∀ k, enc (ix3 0 0 k) = a0 (ix2 g k)) (hp : ∀ (i : Fin 128) k, p (ix2 i k) = a1 (ix2 ⟨g * 128 + i, by omega⟩ k)) (i : Fin 128) (j : Fin 13) :
    Stages.oneGraph enc p (View.ld x2 r0_2) (View.ld x3 r0_5) (View.ld x4 r0_6) (View.ld x5 r0_3) (View.ld x6 r0_4)
      (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0)
      (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10) (View.ld x19 r0_12) (View.ld x20 r0_13) (ix2 i j)
      = ReferenceIdeal.Stages.wholeR a0 a1 a4 a5 a6 a7 a8 a9 a10 a11 a12 a13 a14 a15 a16 a17 a18 a19 (ix2 ⟨g * 128 + i, by omega⟩ j) :=
  whole_eq (begins R B g enc p he hp) (fun r => by rw [ld5, B.h3]) (by rw [ld6, B.h4]) (layer0 R B) (layer1 R B)
    (fun k j => by rw [ld12, B.h19]) (fun j => by rw [ld13, B.h20]) i j

end Cert.KernelIdeal.Graph

end
-- ==== Proof.Blocks.lean ====
/- The blocks a point of the grid reads: two graphs' encodings and positions; every other array whole. -/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0, 0]
    ∧ win0_9.index t = ![0, 0, 0] ∧ win0_10.index t = ![0, 0, 0] ∧ win0_11.index t = ![0, 0, 0] ∧ win0_12.index t = ![0, 0, 0] ∧ win0_13.index t = ![0, 0, 0]
    ∧ win0_14.index t = ![0, 0, 0] ∧ win0_15.index t = ![0, 0, 0] ∧ win0_16.index t = ![0, 0, 0] ∧ win0_17.index t = ![0, 0, 0] ∧ win0_18.index t = ![0, 0, 0]
    ∧ win0_19.index t = ![0, 0] ∧ win0_20.index t = ![0, 0] ∧ win0_21.index t = ![t.val, 0] :=
  (by decide +kernel : ∀ t : Fin grid0.N, _)

theorem points (t : Fin cfg0.N) : t.val < 8 := lt_of_lt_of_eq t.isLt N_0

/-- The block of encodings at a point. -/
theorem enc_block (t : Fin cfg0.N) (s : Fin 2) (k : Fin 128) : (iblk m c 0 t : FVec Ideal S2x1x128 .f32) (ix3 s 0 k)
    = (V m c main_call0_v23 : FVec Ideal S16x1x128 .f32) (ix3 ⟨t.val * 2 + s, by have := points t; omega⟩ 0 k) := by
  blk_ext [iblk, idx t]

/-- The block of positions at a point. -/
theorem pos_block (t : Fin cfg0.N) (i : Fin 256) (k : Fin 3) : (iblk m c 1 t : FVec Ideal S256x3 .f32) (ix2 i k)
    = (V m c main_arg1 : FVec Ideal S2048x3 .f32) (ix2 ⟨t.val * 256 + i, by have := points t; omega⟩ k) := by
  blk_ext [iblk, idx t]

/-! Every other window holds its whole array at every point. -/

theorem block2 (t : Fin cfg0.N) : iblk m c 2 t = V m c main_call0_cst := by blk_ext! [iblk, idx t]
theorem block3 (t : Fin cfg0.N) : iblk m c 3 t = V m c main_call0_v22 := by blk_ext! [iblk, idx t]
theorem block4 (t : Fin cfg0.N) : iblk m c 4 t = V m c main_call0_v21 := by blk_ext! [iblk, idx t]
theorem block5 (t : Fin cfg0.N) : iblk m c 5 t = V m c main_call0_v2 := by blk_ext! [iblk, idx t]
theorem block6 (t : Fin cfg0.N) : iblk m c 6 t = V m c main_call0_v5 := by blk_ext! [iblk, idx t]
theorem block7 (t : Fin cfg0.N) : iblk m c 7 t = V m c main_arg6 := by blk_ext! [iblk, idx t]
theorem block8 (t : Fin cfg0.N) : iblk m c 8 t = V m c main_call0_v6 := by blk_ext! [iblk, idx t]
theorem block9 (t : Fin cfg0.N) : iblk m c 9 t = V m c main_arg8 := by blk_ext! [iblk, idx t]
theorem block10 (t : Fin cfg0.N) : iblk m c 10 t = V m c main_call0_v7 := by blk_ext! [iblk, idx t]
theorem block11 (t : Fin cfg0.N) : iblk m c 11 t = V m c main_arg10 := by blk_ext! [iblk, idx t]
theorem block12 (t : Fin cfg0.N) : iblk m c 12 t = V m c main_call0_v8 := by blk_ext! [iblk, idx t]
theorem block13 (t : Fin cfg0.N) : iblk m c 13 t = V m c main_arg12 := by blk_ext! [iblk, idx t]
theorem block14 (t : Fin cfg0.N) : iblk m c 14 t = V m c main_call0_v9 := by blk_ext! [iblk, idx t]
theorem block15 (t : Fin cfg0.N) : iblk m c 15 t = V m c main_arg14 := by blk_ext! [iblk, idx t]
theorem block16 (t : Fin cfg0.N) : iblk m c 16 t = V m c main_call0_v10 := by blk_ext! [iblk, idx t]
theorem block17 (t : Fin cfg0.N) : iblk m c 17 t = V m c main_arg16 := by blk_ext! [iblk, idx t]
theorem block18 (t : Fin cfg0.N) : iblk m c 18 t = V m c main_call0_v11 := by blk_ext! [iblk, idx t]
theorem block19 (t : Fin cfg0.N) : iblk m c 19 t = V m c main_arg18 := by blk_ext! [iblk, idx t]
theorem block20 (t : Fin cfg0.N) : iblk m c 20 t = V m c main_call0_v12 := by blk_ext! [iblk, idx t]

end Cert.KernelIdeal.Blocks

end
-- ==== Proof.Staged.lean ====
/- What the host line leaves in the arrays the kernel's region reads: the arguments, reshaped or with axes exchanged, and the radial offsets and coefficient. -/
module

public import proofs.«01_k».proof.Proof.Gen.KernelIdeal.Value
public import proofs.«01_k».proof.Proof.Whole
public import Idealize.ShloMosaic.Lib.Pointwise
public import Idealize.ShloMosaic.Lib.Claim

@[expose] public section

set_option maxRecDepth 16384

noncomputable section

namespace Cert.KernelIdeal.Staged

open Cert.KernelIdeal Cert.KernelIdeal.Gen Idealize.ShloMosaic Idealize.ShloMosaic.TcCoe Idealize.SL.Sem

variable (m : (ℓ : Loc nD τ sig) → Buf (Elt Ideal) ℓ) (c : Dev nD)

/-- The encodings, one row per graph. -/
theorem enc_array : (V m c main_call0_v23 : FVec Ideal S16x1x128 .f32) = shapeCast S16x1x128 (m ((c : Thread nD τ).loc main_arg0) : FVec Ideal S16x128 .f32) shapeCasts_S16x128_S16x1x128 := by
  entry_read
  rfl

/-- The projection's columns, ordered by latent point. -/
theorem wup_array : (V m c main_call0_v2 : FVec Ideal S128x3456 .f32) = shapeCast S128x3456 (transpose S128x27x128 [0, 2, 1] (shapeCast S128x128x27 (m ((c : Thread nD τ).loc main_arg4) : FVec Ideal S128x3456 .f32) shapeCasts_S128x3456_S128x128x27) transposes_S128x128x27_S128x27x128_0_2_1) shapeCasts_S128x27x128_S128x3456 := by
  entry_read
  rfl

/-- The projection's biases, ordered by latent point. -/
theorem bup_array : (V m c main_call0_v5 : FVec Ideal S1x3456 .f32) = shapeCast S1x3456 (transpose S27x128 [1, 0] (shapeCast S128x27 (m ((c : Thread nD τ).loc main_arg5) : FVec Ideal S3456 .f32) shapeCasts_S3456_S128x27) transposes_S128x27_S27x128_1_0) shapeCasts_S27x128_S1x3456 := by
  entry_read
  rfl

/-- The biases of argument 7, a plane per layer. -/
theorem bias_array7 : (V m c main_call0_v6 : FVec Ideal S2x1x128 .f32) = shapeCast S2x1x128 (m ((c : Thread nD τ).loc main_arg7) : FVec Ideal S2x128 .f32) shapeCasts_S2x128_S2x1x128 := by
  entry_read
  rfl

/-- The biases of argument 9, a plane per layer. -/
theorem bias_array9 : (V m c main_call0_v7 : FVec Ideal S2x1x128 .f32) = shapeCast S2x1x128 (m ((c : Thread nD τ).loc main_arg9) : FVec Ideal S2x128 .f32) shapeCasts_S2x128_S2x1x128 := by
  entry_read
  rfl

/-- The biases of argument 11, a plane per layer. -/
theorem bias_array11 : (V m c main_call0_v8 : FVec Ideal S2x1x128 .f32) = shapeCast S2x1x128 (m ((c : Thread nD τ).loc main_arg11) : FVec Ideal S2x128 .f32) shapeCasts_S2x128_S2x1x128 := by
  entry_read
  rfl

/-- The biases of argument 13, a plane per layer. -/
theorem bias_array13 : (V m c main_call0_v9 : FVec Ideal S2x1x128 .f32) = shapeCast S2x1x128 (m ((c : Thread nD τ).loc main_arg13) : FVec Ideal S2x128 .f32) shapeCasts_S2x128_S2x1x128 := by
  entry_read
  rfl

/-- The biases of argument 15, a plane per layer. -/
theorem bias_array15 : (V m c main_call0_v10 : FVec Ideal S2x1x128 .f32) = shapeCast S2x1x128 (m ((c : Thread nD τ).loc main_arg15) : FVec Ideal S2x128 .f32) shapeCasts_S2x128_S2x1x128 := by
  entry_read
  rfl

/-- The biases of argument 17, a plane per layer. -/
theorem bias_array17 : (V m c main_call0_v11 : FVec Ideal S2x1x128 .f32) = shapeCast S2x1x128 (m ((c : Thread nD τ).loc main_arg17) : FVec Ideal S2x128 .f32) shapeCasts_S2x128_S2x1x128 := by
  entry_read
  rfl

/-- The last biases, as a row. -/
theorem bo_array : (V m c main_call0_v12 : FVec Ideal S1x10 .f32) = shapeCast S1x10 (m ((c : Thread nD τ).loc main_arg19) : FVec Ideal S10 .f32) shapeCasts_S10_S1x10 := by
  entry_read
  rfl

/-- The radial offsets, as a column. -/
theorem offs_array : (V m c main_call0_v22 : FVec Ideal S50x1 .f32) = shapeCast S50x1 (ReferenceIdeal.Stages.offsetsR (F := Ideal)) shapeCasts_S50_S50x1 := by
  entry_read
  rfl

/-- The radial coefficient. -/
theorem coef_array : (V m c main_call0_v21 : FVec Ideal S1x1 .f32) = shapeCast S1x1 (ReferenceIdeal.Stages.coefR (F := Ideal)) shapeCasts_S_S1x1 := by
  entry_read
  rfl

/-- The latent points. -/
theorem lat_array : (V m c main_call0_cst : FVec Ideal S27x3 .f32) = ReferenceIdeal.Stages.latticeR (F := Ideal) := by
  entry_read
  rfl

end Cert.KernelIdeal.Staged

end
-- ==== Proof.StagedRead.lean ====
/- The staged arrays of the kernel's region, read at an index: every element is an element of an argument. -/
module

public import proofs.«01_k».proof.Proof.Staged

@[expose] public section

set_option maxRecDepth 16384

noncomputable section

namespace Cert.KernelIdeal.Staged

open Cert.KernelIdeal Cert.KernelIdeal.Gen Idealize.ShloMosaic Idealize.ShloMosaic.TcCoe Idealize.SL.Sem

theorem row_read (x : FVec Ideal S16x128 .f32) (g : Fin 16) (k : Fin 128) :
    shapeCast S16x1x128 x shapeCasts_S16x128_S16x1x128 (ix3 g 0 k) = x (ix2 g k) := by pointwise

theorem columns_read (x : FVec Ideal S128x3456 .f32) (k : Fin 128) (n : Fin 27) (d : Fin 128) :
    shapeCast S128x3456 (transpose S128x27x128 [0, 2, 1] (shapeCast S128x128x27 x shapeCasts_S128x3456_S128x128x27) transposes_S128x128x27_S128x27x128_0_2_1)
      shapeCasts_S128x27x128_S128x3456 (ix2 k ⟨n * 128 + d, by omega⟩) = x (ix2 k ⟨d * 27 + n, by omega⟩) := by
  pointwise

theorem biases_read (x : FVec Ideal S3456 .f32) (n : Fin 27) (d : Fin 128) :
    shapeCast S1x3456 (transpose S27x128 [1, 0] (shapeCast S128x27 x shapeCasts_S3456_S128x27) transposes_S128x27_S27x128_1_0)
      shapeCasts_S27x128_S1x3456 (ix2 0 ⟨n * 128 + d, by omega⟩) = x (ix1 ⟨d * 27 + n, by omega⟩) := by
  pointwise

theorem plane_read (x : FVec Ideal S2x128 .f32) (l : Fin 2) (j : Fin 128) :
    shapeCast S2x1x128 x shapeCasts_S2x128_S2x1x128 (ix3 l 0 j) = x (ix2 l j) := by pointwise

theorem last_read (x : FVec Ideal S10 .f32) (j : Fin 10) : shapeCast S1x10 x shapeCasts_S10_S1x10 (ix2 0 j) = x (ix1 j) := by pointwise

theorem column_read (x : FVec Ideal S50 .f32) (r : Fin 50) : shapeCast S50x1 x shapeCasts_S50_S50x1 (ix2 r 0) = x (ix1 r) := by pointwise

theorem point_read (x : FVec Ideal S_ .f32) : shapeCast S1x1 x shapeCasts_S_S1x1 (ix2 0 0) = x ix0 := by pointwise

end Cert.KernelIdeal.Staged

end
-- ==== Proof.Body.lean ====
/- The block the body stores, in terms of the steps of `Stages`: each value it names is the step it carries out
   of the values before it, and each of the two stores is `oneGraph` of what the body loads. -/
module

public import proofs.«01_k».proof.Proof.Gen.KernelIdeal.Frame
public import proofs.«01_k».proof.Proof.Stages

@[expose] public section

set_option maxRecDepth 16384

noncomputable section

namespace Cert.KernelIdeal.Stages

open Cert.KernelIdeal Cert.KernelIdeal.Gen Idealize.ShloMosaic Idealize.SL.Sem

variable {F : FTy → Type} [FloatOps F] [Named F]

variable (x0 : Vec F S2x1x128 .f32) (x1 : Vec F S256x3 .f32) (x2 : Vec F S27x3 .f32) (x3 : Vec F S50x1 .f32) (x4 : Vec F S1x1 .f32) (x5 : Vec F S128x3456 .f32) (x6 : Vec F S1x3456 .f32) (x7 : Vec F S2x128x128 .f32) (x8 : Vec F S2x1x128 .f32) (x9 : Vec F S2x128x128 .f32) (x10 : Vec F S2x1x128 .f32) (x11 : Vec F S2x128x128 .f32) (x12 : Vec F S2x1x128 .f32) (x13 : Vec F S2x50x128 .f32) (x14 : Vec F S2x1x128 .f32) (x15 : Vec F S2x128x128 .f32) (x16 : Vec F S2x1x128 .f32) (x17 : Vec F S2x128x128 .f32) (x18 : Vec F S2x1x128 .f32) (x19 : Vec F S128x10 .f32) (x20 : Vec F S1x10 .f32)

/-- Graph 0: the features before the layers. -/
theorem start0 :
    (k0_pay196 x0 x1 x2 x3 x4 x5 x6 x7 x8 x9 x10 x11 x12 x13 x14 x15 x16 x17 x18 x19 x20)
    = startV (latentV (View.ld x0 r0_0) (View.ld x5 r0_3) (View.ld x6 r0_4)) (latentDistV (View.ld x1 r0_1) (View.ld x2 r0_2)) := by
  unfold k0_pay196 k0_pay195 k0_pay194; rfl

/-- Graph 0, layer 0: the neighbours. -/
theorem mask00 :
    (k0_pay202 x0 x1 x2 x3 x4 x5 x6 x7 x8 x9 x10 x11 x12 x13 x14 x15 x16 x17 x18 x19 x20)
    = maskV (View.ld x1 r0_1) := by
  unfold k0_pay202 k0_pay199 k0_pay200 k0_pay201; rfl

/-- Graph 0, layer 0: the neighbours as floats. -/
theorem maskf00 :
    (k0_pay203 x0 x1 x2 x3 x4 x5 x6 x7 x8 x9 x10 x11 x12 x13 x14 x15 x16 x17 x18 x19 x20)
    = oneHotV (k0_pay202 x0 x1 x2 x3 x4 x5 x6 x7 x8 x9 x10 x11 x12 x13 x14 x15 x16 x17 x18 x19 x20) := by
  unfold k0_pay203 k0_pay202 k0_pay199 k0_pay200 k0_pay201; rfl

/-- Graph 0, layer 0: the radial features. -/
theorem radial00 :
    (k0_pay204 x0 x1 x2 x3 x4 x5 x6 x7 x8 x9 x10 x11 x12 x13 x14 x15 x16 x17 x18 x19 x20)
    = radialV (View.ld x1 r0_1) (View.ld x3 r0_5) (View.ld x4 r0_6) := by
  unfold k0_pay204 k0_pay197 k0_pay198 k0_pay200 k0_pay201; rfl

/-- Graph 0, layer 0: the queries. -/
theorem query00 :
    (k0_pay205 x0 x1 x2 x3 x4 x5 x6 x7 x8 x9 x10 x11 x12 x13 x14 x15 x16 x17 x18 x19 x20)
    = denseV (k0_pay196 x0 x1 x2 x3 x4 x5 x6 x7 x8 x9 x10 x11 x12 x13 x14 x15 x16 x17 x18 x19 x20) (View.ld x7 r0_7) (View.ld x8 r0_0) := by
  unfold k0_pay205; rfl

/-- Graph 0, layer 0: the keys. -/
theorem key00 :
    (k0_pay207 x0 x1 x2 x3 x4 x5 x6 x7 x8 x9 x10 x11 x12 x13 x14 x15 x16 x17 x18 x19 x20)
    = denseV (k0_pay196 x0 x1 x2 x3 x4 x5 x6 x7 x8 x9 x10 x11 x12 x13 x14 x15 x16 x17 x18 x19 x20) (View.ld x9 r0_7) (View.ld x10 r0_0) := by
  unfold k0_pay207 k0_pay206; rfl

/-- Graph 0, layer 0: the values. -/
theorem val00 :
    (k0_pay208 x0 x1 x2 x3 x4 x5 x6 x7 x8 x9 x10 x11 x12 x13 x14 x15 x16 x17 x18 x19 x20)
    = denseV (k0_pay196 x0 x1 x2 x3 x4 x5 x6 x7 x8 x9 x10 x11 x12 x13 x14 x15 x16 x17 x18 x19 x20) (View.ld x11 r0_7) (View.ld x12 r0_0) := by
  unfold k0_pay208; rfl

/-- Graph 0, layer 0: the skip connection. -/
theorem skip00 :
    (k0_pay209 x0 x1 x2 x3 x4 x5 x6 x7 x8 x9 x10 x11 x12 x13 x14 x15 x16 x17 x18 x19 x20)
    = denseV (k0_pay196 x0 x1 x2 x3 x4 x5 x6 x7 x8 x9 x10 x11 x12 x13 x14 x15 x16 x17 x18 x19 x20) (View.ld x15 r0_7) (View.ld x16 r0_0) := by
  unfold k0_pay209; rfl

/-- Graph 0, layer 0: the first head. -/
theorem head00_0 :
    (k0_pay212 x0 x1 x2 x3 x4 x5 x6 x7 x8 x9 x10 x11 x12 x13 x14 x15 x16 x17 x18 x19 x20)
    = headV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (extractStridedSlice S128x32 ![0, 0] (k0_pay205 x0 x1 x2 x3 x4 x5 x6 x7 x8 x9 x10 x11 x12 x13 x14 x15 x16 x17 x18 x19 x20) slices_S128x128_o0_0_S128x32) (extractStridedSlice S128x32 ![0, 0] (k0_pay207 x0 x1 x2 x3 x4 x5 x6 x7 x8 x9 x10 x11 x12 x13 x14 x15 x16 x17 x18 x19 x20) slices_S128x128_o0_0_S128x32) (extractStridedSlice S128x32 ![0, 0] (k0_pay208 x0 x1 x2 x3 x4 x5 x6 x7 x8 x9 x10 x11 x12 x13 x14 x15 x16 x17 x18 x19 x20) slices_S128x128_o0_0_S128x32) (extractStridedSlice S50x32 ![0, 0] (k0_pay210 x0 x1 x2 x3 x4 x5 x6 x7 x8 x9 x10 x11 x12 x13 x14 x15 x16 x17 x18 x19 x20) slices_S50x128_o0_0_S50x32) (extractStridedSlice S1x32 ![0, 0] (k0_pay211 x0 x1 x2 x3 x4 x5 x6 x7 x8 x9 x10 x11 x12 x13 x14 x15 x16 x17 x18 x19 x20) slices_S1x128_o0_0_S1x32) := by
  unfold k0_pay212 k0_pay211 k0_pay210 k0_pay208 k0_pay207; rw [maskf00]; rfl

/-- Graph 0, layer 0: the second head. -/
theorem head00_1 :
    (k0_pay213 x0 x1 x2 x3 x4 x5 x6 x7 x8 x9 x10 x11 x12 x13 x14 x15 x16 x17 x18 x19 x20)
    = headV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (extractStridedSlice S128x32 ![0, 32] (k0_pay205 x0 x1 x2 x3 x4 x5 x6 x7 x8 x9 x10 x11 x12 x13 x14 x15 x16 x17 x18 x19 x20) slices_S128x128_o0_32_S128x32) (extractStridedSlice S128x32 ![0, 32] (k0_pay207 x0 x1 x2 x3 x4 x5 x6 x7 x8 x9 x10 x11 x12 x13 x14 x15 x16 x17 x18 x19 x20) slices_S128x128_o0_32_S128x32) (extractStridedSlice S128x32 ![0, 32] (k0_pay208 x0 x1 x2 x3 x4 x5 x6 x7 x8 x9 x10 x11 x12 x13 x14 x15 x16 x17 x18 x19 x20) slices_S128x128_o0_32_S128x32) (extractStridedSlice S50x32 ![0, 32] (k0_pay210 x0 x1 x2 x3 x4 x5 x6 x7 x8 x9 x10 x11 x12 x13 x14 x15 x16 x17 x18 x19 x20) slices_S50x128_o0_32_S50x32) (extractStridedSlice S1x32 ![0, 32] (k0_pay211 x0 x1 x2 x3 x4 x5 x6 x7 x8 x9 x10 x11 x12 x13 x14 x15 x16 x17 x18 x19 x20) slices_S1x128_o0_32_S1x32) := by
  unfold k0_pay213; rw [maskf00]; rfl

/-- Graph 0, layer 0: the third head. -/
theorem head00_2 :
    (k0_pay214 x0 x1 x2 x3 x4 x5 x6 x7 x8 x9 x10 x11 x12 x13 x14 x15 x16 x17 x18 x19 x20)
    = headV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (extractStridedSlice S128x32 ![0, 64] (k0_pay205 x0 x1 x2 x3 x4 x5 x6 x7 x8 x9 x10 x11 x12 x13 x14 x15 x16 x17 x18 x19 x20) slices_S128x128_o0_64_S128x32) (extractStridedSlice S128x32 ![0, 64] (k0_pay207 x0 x1 x2 x3 x4 x5 x6 x7 x8 x9 x10 x11 x12 x13 x14 x15 x16 x17 x18 x19 x20) slices_S128x128_o0_64_S128x32) (extractStridedSlice S128x32 ![0, 64] (k0_pay208 x0 x1 x2 x3 x4 x5 x6 x7 x8 x9 x10 x11 x12 x13 x14 x15 x16 x17 x18 x19 x20) slices_S128x128_o0_64_S128x32) (extractStridedSlice S50x32 ![0, 64] (k0_pay210 x0 x1 x2 x3 x4 x5 x6 x7 x8 x9 x10 x11 x12 x13 x14 x15 x16 x17 x18 x19 x20) slices_S50x128_o0_64_S50x32) (extractStridedSlice S1x32 ![0, 64] (k0_pay211 x0 x1 x2 x3 x4 x5 x6 x7 x8 x9 x10 x11 x12 x13 x14 x15 x16 x17 x18 x19 x20) slices_S1x128_o0_64_S1x32) := by
  unfold k0_pay214; rw [maskf00]; rfl

/-- Graph 0, layer 0: the moved positions. -/
theorem move00 :
    (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20))
    = moveV (View.ld x1 r0_1) (featV (k0_pay196 x0 x1 x2 x3 x4 x5 x6 x7 x8 x9 x10 x11 x12 x13 x14 x15 x16 x17 x18 x19 x20) (attnV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (k0_pay205 x0 x1 x2 x3 x4 x5 x6 x7 x8 x9 x10 x11 x12 x13 x14 x15 x16 x17 x18 x19 x20) (k0_pay207 x0 x1 x2 x3 x4 x5 x6 x7 x8 x9 x10 x11 x12 x13 x14 x15 x16 x17 x18 x19 x20) (k0_pay208 x0 x1 x2 x3 x4 x5 x6 x7 x8 x9 x10 x11 x12 x13 x14 x15 x16 x17 x18 x19 x20) (View.ld x13 r0_8) (View.ld x14 r0_0)) (k0_pay209 x0 x1 x2 x3 x4 x5 x6 x7 x8 x9 x10 x11 x12 x13 x14 x15 x16 x17 x18 x19 x20) (View.ld x17 r0_7) (View.ld x18 r0_0)) := by
  unfold k0_pay219 k0_pay220; rw [head00_0, head00_1, head00_2, maskf00]; unfold k0_pay215 k0_pay216 k0_pay217 k0_pay218 k0_pay210 k0_pay211; rfl

/-- Graph 0, layer 0: the features handed on. -/
theorem pass00 :
    (k0_pay221 x0 x1 x2 x3 x4 x5 x6 x7 x8 x9 x10 x11 x12 x13 x14 x15 x16 x17 x18 x19 x20)
    = passV (featV (k0_pay196 x0 x1 x2 x3 x4 x5 x6 x7 x8 x9 x10 x11 x12 x13 x14 x15 x16 x17 x18 x19 x20) (attnV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (k0_pay205 x0 x1 x2 x3 x4 x5 x6 x7 x8 x9 x10 x11 x12 x13 x14 x15 x16 x17 x18 x19 x20) (k0_pay207 x0 x1 x2 x3 x4 x5 x6 x7 x8 x9 x10 x11 x12 x13 x14 x15 x16 x17 x18 x19 x20) (k0_pay208 x0 x1 x2 x3 x4 x5 x6 x7 x8 x9 x10 x11 x12 x13 x14 x15 x16 x17 x18 x19 x20) (View.ld x13 r0_8) (View.ld x14 r0_0)) (k0_pay209 x0 x1 x2 x3 x4 x5 x6 x7 x8 x9 x10 x11 x12 x13 x14 x15 x16 x17 x18 x19 x20) (View.ld x17 r0_7) (View.ld x18 r0_0)) (moveV (View.ld x1 r0_1) (featV (k0_pay196 x0 x1 x2 x3 x4 x5 x6 x7 x8 x9 x10 x11 x12 x13 x14 x15 x16 x17 x18 x19 x20) (attnV (k0_pay202 x0 x1 x2 x3 x4 x5 x6 x7 x8 x9 x10 x11 x12 x13 x14 x15 x16 x17 x18 x19 x20) (k0_pay204 x0 x1 x2 x3 x4 x5 x6 x7 x8 x9 x10 x11 x12 x13 x14 x15 x16 x17 x18 x19 x20) (k0_pay205 x0 x1 x2 x3 x4 x5 x6 x7 x8 x9 x10 x11 x12 x13 x14 x15 x16 x17 x18 x19 x20) (k0_pay207 x0 x1 x2 x3 x4 x5 x6 x7 x8 x9 x10 x11 x12 x13 x14 x15 x16 x17 x18 x19 x20) (k0_pay208 x0 x1 x2 x3 x4 x5 x6 x7 x8 x9 x10 x11 x12 x13 x14 x15 x16 x17 x18 x19 x20) (View.ld x13 r0_8) (View.ld x14 r0_0)) (k0_pay209 x0 x1 x2 x3 x4 x5 x6 x7 x8 x9 x10 x11 x12 x13 x14 x15 x16 x17 x18 x19 x20) (View.ld x17 r0_7) (View.ld x18 r0_0))) := by
  unfold k0_pay221 k0_pay219 k0_pay220; rw [head00_0, head00_1, head00_2, maskf00]; unfold k0_pay215 k0_pay216 k0_pay217 k0_pay218 k0_pay210 k0_pay211; rfl

/-- Graph 0, layer 1: the neighbours. -/
theorem mask01 :
    (k0_pay222 x0 x1 x2 x3 x4 x5 x6 x7 x8 x9 x10 x11 x12 x13 x14 x15 x16 x17 x18 x19 x20)
    = maskV (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) := by
  unfold k0_pay222 k0_pay199; rfl

/-- Graph 0, layer 1: the neighbours as floats. -/
theorem maskf01 :
    (k0_pay223 x0 x1 x2 x3 x4 x5 x6 x7 x8 x9 x10 x11 x12 x13 x14 x15 x16 x17 x18 x19 x20)
    = oneHotV (k0_pay222 x0 x1 x2 x3 x4 x5 x6 x7 x8 x9 x10 x11 x12 x13 x14 x15 x16 x17 x18 x19 x20) := by
  unfold k0_pay223 k0_pay222 k0_pay199; rfl

/-- Graph 0, layer 1: the radial features. -/
theorem radial01 :
    (k0_pay224 x0 x1 x2 x3 x4 x5 x6 x7 x8 x9 x10 x11 x12 x13 x14 x15 x16 x17 x18 x19 x20)
    = radialV (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) (View.ld x3 r0_5) (View.ld x4 r0_6) := by
  unfold k0_pay224 k0_pay197 k0_pay198; rfl

/-- Graph 0, layer 1: the queries. -/
theorem query01 :
    (k0_pay226 x0 x1 x2 x3 x4 x5 x6 x7 x8 x9 x10 x11 x12 x13 x14 x15 x16 x17 x18 x19 x20)
    = denseV (k0_pay221 x0 x1 x2 x3 x4 x5 x6 x7 x8 x9 x10 x11 x12 x13 x14 x15 x16 x17 x18 x19 x20) (View.ld x7 r0_9) (View.ld x8 r0_10) := by
  unfold k0_pay226 k0_pay225 k0_pay221; rfl

/-- Graph 0, layer 1: the keys. -/
theorem key01 :
    (k0_pay227 x0 x1 x2 x3 x4 x5 x6 x7 x8 x9 x10 x11 x12 x13 x14 x15 x16 x17 x18 x19 x20)
    = denseV (k0_pay221 x0 x1 x2 x3 x4 x5 x6 x7 x8 x9 x10 x11 x12 x13 x14 x15 x16 x17 x18 x19 x20) (View.ld x9 r0_9) (View.ld x10 r0_10) := by
  unfold k0_pay227; rfl

/-- Graph 0, layer 1: the values. -/
theorem val01 :
    (k0_pay228 x0 x1 x2 x3 x4 x5 x6 x7 x8 x9 x10 x11 x12 x13 x14 x15 x16 x17 x18 x19 x20)
    = denseV (k0_pay221 x0 x1 x2 x3 x4 x5 x6 x7 x8 x9 x10 x11 x12 x13 x14 x15 x16 x17 x18 x19 x20) (View.ld x11 r0_9) (View.ld x12 r0_10) := by
  unfold k0_pay228; rfl

/-- Graph 0, layer 1: the first head. -/
theorem head01_0 :
    (k0_pay75 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (k0_pay229 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay73 (k0_pay225 x0 x1 x2 x3 x4 x5 x6 x7 x8 x9 x10 x11 x12 x13 x14 x15 x16 x17 x18 x19 x20) (View.ld x8 r0_10)) (k0_pay74 (k0_pay221 x0 x1 x2 x3 x4 x5 x6 x7 x8 x9 x10 x11 x12 x13 x14 x15 x16 x17 x18 x19 x20) (View.ld x9 r0_9) (View.ld x10 r0_10)))
    = headV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (extractStridedSlice S128x32 ![0, 0] (k0_pay226 x0 x1 x2 x3 x4 x5 x6 x7 x8 x9 x10 x11 x12 x13 x14 x15 x16 x17 x18 x19 x20) slices_S128x128_o0_0_S128x32) (extractStridedSlice S128x32 ![0, 0] (k0_pay227 x0 x1 x2 x3 x4 x5 x6 x7 x8 x9 x10 x11 x12 x13 x14 x15 x16 x17 x18 x19 x20) slices_S128x128_o0_0_S128x32) (extractStridedSlice S128x32 ![0, 0] (k0_pay228 x0 x1 x2 x3 x4 x5 x6 x7 x8 x9 x10 x11 x12 x13 x14 x15 x16 x17 x18 x19 x20) slices_S128x128_o0_0_S128x32) (extractStridedSlice S50x32 ![0, 0] (k0_pay229 x0 x1 x2 x3 x4 x5 x6 x7 x8 x9 x10 x11 x12 x13 x14 x15 x16 x17 x18 x19 x20) slices_S50x128_o0_0_S50x32) (extractStridedSlice S1x32 ![0, 0] (k0_pay230 x0 x1 x2 x3 x4 x5 x6 x7 x8 x9 x10 x11 x12 x13 x14 x15 x16 x17 x18 x19 x20) slices_S1x128_o0_0_S1x32) := by
  rw [maskf01]; unfold k0_pay226 k0_pay227; rfl

/-- Graph 0, layer 1: the second head. -/
theorem head01_1 :
    (k0_pay80 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay76 (k0_pay226 x0 x1 x2 x3 x4 x5 x6 x7 x8 x9 x10 x11 x12 x13 x14 x15 x16 x17 x18 x19 x20)) (k0_pay77 (k0_pay227 x0 x1 x2 x3 x4 x5 x6 x7 x8 x9 x10 x11 x12 x13 x14 x15 x16 x17 x18 x19 x20)) (k0_pay78 (k0_pay228 x0 x1 x2 x3 x4 x5 x6 x7 x8 x9 x10 x11 x12 x13 x14 x15 x16 x17 x18 x19 x20)) (k0_pay79 (k0_pay229 x0 x1 x2 x3 x4 x5 x6 x7 x8 x9 x10 x11 x12 x13 x14 x15 x16 x17 x18 x19 x20)))
    = headV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (extractStridedSlice S128x32 ![0, 32] (k0_pay226 x0 x1 x2 x3 x4 x5 x6 x7 x8 x9 x10 x11 x12 x13 x14 x15 x16 x17 x18 x19 x20) slices_S128x128_o0_32_S128x32) (extractStridedSlice S128x32 ![0, 32] (k0_pay227 x0 x1 x2 x3 x4 x5 x6 x7 x8 x9 x10 x11 x12 x13 x14 x15 x16 x17 x18 x19 x20) slices_S128x128_o0_32_S128x32) (extractStridedSlice S128x32 ![0, 32] (k0_pay228 x0 x1 x2 x3 x4 x5 x6 x7 x8 x9 x10 x11 x12 x13 x14 x15 x16 x17 x18 x19 x20) slices_S128x128_o0_32_S128x32) (extractStridedSlice S50x32 ![0, 32] (k0_pay229 x0 x1 x2 x3 x4 x5 x6 x7 x8 x9 x10 x11 x12 x13 x14 x15 x16 x17 x18 x19 x20) slices_S50x128_o0_32_S50x32) (extractStridedSlice S1x32 ![0, 32] (k0_pay230 x0 x1 x2 x3 x4 x5 x6 x7 x8 x9 x10 x11 x12 x13 x14 x15 x16 x17 x18 x19 x20) slices_S1x128_o0_32_S1x32) := by
  rw [maskf01]; rfl

/-- Graph 0, layer 1: the third head. -/
theorem head01_2 :
    (k0_pay86 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay81 (k0_pay226 x0 x1 x2 x3 x4 x5 x6 x7 x8 x9 x10 x11 x12 x13 x14 x15 x16 x17 x18 x19 x20)) (k0_pay82 (k0_pay227 x0 x1 x2 x3 x4 x5 x6 x7 x8 x9 x10 x11 x12 x13 x14 x15 x16 x17 x18 x19 x20)) (k0_pay83 (k0_pay228 x0 x1 x2 x3 x4 x5 x6 x7 x8 x9 x10 x11 x12 x13 x14 x15 x16 x17 x18 x19 x20)) (k0_pay84 (k0_pay229 x0 x1 x2 x3 x4 x5 x6 x7 x8 x9 x10 x11 x12 x13 x14 x15 x16 x17 x18 x19 x20)) (k0_pay85 (k0_pay230 x0 x1 x2 x3 x4 x5 x6 x7 x8 x9 x10 x11 x12 x13 x14 x15 x16 x17 x18 x19 x20)) (constant S128x128 .f32 0x00000000#32))
    = headV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (extractStridedSlice S128x32 ![0, 64] (k0_pay226 x0 x1 x2 x3 x4 x5 x6 x7 x8 x9 x10 x11 x12 x13 x14 x15 x16 x17 x18 x19 x20) slices_S128x128_o0_64_S128x32) (extractStridedSlice S128x32 ![0, 64] (k0_pay227 x0 x1 x2 x3 x4 x5 x6 x7 x8 x9 x10 x11 x12 x13 x14 x15 x16 x17 x18 x19 x20) slices_S128x128_o0_64_S128x32) (extractStridedSlice S128x32 ![0, 64] (k0_pay228 x0 x1 x2 x3 x4 x5 x6 x7 x8 x9 x10 x11 x12 x13 x14 x15 x16 x17 x18 x19 x20) slices_S128x128_o0_64_S128x32) (extractStridedSlice S50x32 ![0, 64] (k0_pay229 x0 x1 x2 x3 x4 x5 x6 x7 x8 x9 x10 x11 x12 x13 x14 x15 x16 x17 x18 x19 x20) slices_S50x128_o0_64_S50x32) (extractStridedSlice S1x32 ![0, 64] (k0_pay230 x0 x1 x2 x3 x4 x5 x6 x7 x8 x9 x10 x11 x12 x13 x14 x15 x16 x17 x18 x19 x20) slices_S1x128_o0_64_S1x32) := by
  rw [maskf01]; rfl

/-- Graph 0: the rows stored. -/
theorem finish0 :
    k0_pay93 (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) (k0_pay221 x0 x1 x2 x3 x4 x5 x6 x7 x8 x9 x10 x11 x12 x13 x14 x15 x16 x17 x18 x19 x20) (k0_pay92 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay70 (k0_pay221 x0 x1 x2 x3 x4 x5 x6 x7 x8 x9 x10 x11 x12 x13 x14 x15 x16 x17 x18 x19 x20) (View.ld x15 r0_9) (View.ld x16 r0_10)) (k0_pay75 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (k0_pay229 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay73 (k0_pay225 x0 x1 x2 x3 x4 x5 x6 x7 x8 x9 x10 x11 x12 x13 x14 x15 x16 x17 x18 x19 x20) (View.ld x8 r0_10)) (k0_pay74 (k0_pay221 x0 x1 x2 x3 x4 x5 x6 x7 x8 x9 x10 x11 x12 x13 x14 x15 x16 x17 x18 x19 x20) (View.ld x9 r0_9) (View.ld x10 r0_10))) (k0_pay80 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay76 (k0_pay226 x0 x1 x2 x3 x4 x5 x6 x7 x8 x9 x10 x11 x12 x13 x14 x15 x16 x17 x18 x19 x20)) (k0_pay77 (k0_pay227 x0 x1 x2 x3 x4 x5 x6 x7 x8 x9 x10 x11 x12 x13 x14 x15 x16 x17 x18 x19 x20)) (k0_pay78 (k0_pay228 x0 x1 x2 x3 x4 x5 x6 x7 x8 x9 x10 x11 x12 x13 x14 x15 x16 x17 x18 x19 x20)) (k0_pay79 (k0_pay229 x0 x1 x2 x3 x4 x5 x6 x7 x8 x9 x10 x11 x12 x13 x14 x15 x16 x17 x18 x19 x20))) (k0_pay86 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay81 (k0_pay226 x0 x1 x2 x3 x4 x5 x6 x7 x8 x9 x10 x11 x12 x13 x14 x15 x16 x17 x18 x19 x20)) (k0_pay82 (k0_pay227 x0 x1 x2 x3 x4 x5 x6 x7 x8 x9 x10 x11 x12 x13 x14 x15 x16 x17 x18 x19 x20)) (k0_pay83 (k0_pay228 x0 x1 x2 x3 x4 x5 x6 x7 x8 x9 x10 x11 x12 x13 x14 x15 x16 x17 x18 x19 x20)) (k0_pay84 (k0_pay229 x0 x1 x2 x3 x4 x5 x6 x7 x8 x9 x10 x11 x12 x13 x14 x15 x16 x17 x18 x19 x20)) (k0_pay85 (k0_pay230 x0 x1 x2 x3 x4 x5 x6 x7 x8 x9 x10 x11 x12 x13 x14 x15 x16 x17 x18 x19 x20)) (constant S128x128 .f32 0x00000000#32)) (k0_pay87 (k0_pay226 x0 x1 x2 x3 x4 x5 x6 x7 x8 x9 x10 x11 x12 x13 x14 x15 x16 x17 x18 x19 x20)) (k0_pay88 (k0_pay228 x0 x1 x2 x3 x4 x5 x6 x7 x8 x9 x10 x11 x12 x13 x14 x15 x16 x17 x18 x19 x20)) (k0_pay89 (k0_pay229 x0 x1 x2 x3 x4 x5 x6 x7 x8 x9 x10 x11 x12 x13 x14 x15 x16 x17 x18 x19 x20)) (k0_pay90 (k0_pay230 x0 x1 x2 x3 x4 x5 x6 x7 x8 x9 x10 x11 x12 x13 x14 x15 x16 x17 x18 x19 x20)) (k0_pay91 (k0_pay226 x0 x1 x2 x3 x4 x5 x6 x7 x8 x9 x10 x11 x12 x13 x14 x15 x16 x17 x18 x19 x20) (k0_pay227 x0 x1 x2 x3 x4 x5 x6 x7 x8 x9 x10 x11 x12 x13 x14 x15 x16 x17 x18 x19 x20)) (constant S50x128 .f32 0x00000000#32) (View.ld x17 r0_9)) (View.ld x18 r0_10) (View.ld x19 r0_12) (View.ld x20 r0_13)
    = finishV (moveV (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) (featV (k0_pay221 x0 x1 x2 x3 x4 x5 x6 x7 x8 x9 x10 x11 x12 x13 x14 x15 x16 x17 x18 x19 x20) (attnV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay226 x0 x1 x2 x3 x4 x5 x6 x7 x8 x9 x10 x11 x12 x13 x14 x15 x16 x17 x18 x19 x20) (k0_pay227 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (View.ld x13 r0_11) (View.ld x14 r0_10)) (denseV (k0_pay221 x0 x1 x2 x3 x4 x5 x6 x7 x8 x9 x10 x11 x12 x13 x14 x15 x16 x17 x18 x19 x20) (View.ld x15 r0_9) (View.ld x16 r0_10)) (View.ld x17 r0_9) (View.ld x18 r0_10))) (passV (featV (k0_pay221 x0 x1 x2 x3 x4 x5 x6 x7 x8 x9 x10 x11 x12 x13 x14 x15 x16 x17 x18 x19 x20) (attnV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay226 x0 x1 x2 x3 x4 x5 x6 x7 x8 x9 x10 x11 x12 x13 x14 x15 x16 x17 x18 x19 x20) (k0_pay227 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (View.ld x13 r0_11) (View.ld x14 r0_10)) (denseV (k0_pay221 x0 x1 x2 x3 x4 x5 x6 x7 x8 x9 x10 x11 x12 x13 x14 x15 x16 x17 x18 x19 x20) (View.ld x15 r0_9) (View.ld x16 r0_10)) (View.ld x17 r0_9) (View.ld x18 r0_10)) (moveV (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) (featV (k0_pay221 x0 x1 x2 x3 x4 x5 x6 x7 x8 x9 x10 x11 x12 x13 x14 x15 x16 x17 x18 x19 x20) (attnV (k0_pay222 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay226 x0 x1 x2 x3 x4 x5 x6 x7 x8 x9 x10 x11 x12 x13 x14 x15 x16 x17 x18 x19 x20) (k0_pay227 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (View.ld x13 r0_11) (View.ld x14 r0_10)) (denseV (k0_pay221 x0 x1 x2 x3 x4 x5 x6 x7 x8 x9 x10 x11 x12 x13 x14 x15 x16 x17 x18 x19 x20) (View.ld x15 r0_9) (View.ld x16 r0_10)) (View.ld x17 r0_9) (View.ld x18 r0_10)))) (View.ld x19 r0_12) (View.ld x20 r0_13) := by
  rw [head01_0, head01_1, head01_2, maskf01]; unfold k0_pay229 k0_pay230; rfl

/-- Graph 0: the rows stored are `oneGraph` of the loads. -/
theorem stored0 :
    k0_pay93 (k0_pay60 (View.ld x1 r0_1) (k0_pay196 x0 x1 x2 x3 x4 x5 x6 x7 x8 x9 x10 x11 x12 x13 x14 x15 x16 x17 x18 x19 x20) (k0_pay219 x0 x1 x2 x3 x4 x5 x6 x7 x8 x9 x10 x11 x12 x13 x14 x15 x16 x17 x18 x19 x20) (k0_pay220 x0 x1 x2 x3 x4 x5 x6 x7 x8 x9 x10 x11 x12 x13 x14 x15 x16 x17 x18 x19 x20)) (k0_pay221 x0 x1 x2 x3 x4 x5 x6 x7 x8 x9 x10 x11 x12 x13 x14 x15 x16 x17 x18 x19 x20) (k0_pay92 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay70 (k0_pay221 x0 x1 x2 x3 x4 x5 x6 x7 x8 x9 x10 x11 x12 x13 x14 x15 x16 x17 x18 x19 x20) (View.ld x15 r0_9) (View.ld x16 r0_10)) (k0_pay75 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay228 x0 x1 x2 x3 x4 x5 x6 x7 x8 x9 x10 x11 x12 x13 x14 x15 x16 x17 x18 x19 x20) (k0_pay229 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay73 (k0_pay225 x0 x1 x2 x3 x4 x5 x6 x7 x8 x9 x10 x11 x12 x13 x14 x15 x16 x17 x18 x19 x20) (View.ld x8 r0_10)) (k0_pay74 (k0_pay221 x0 x1 x2 x3 x4 x5 x6 x7 x8 x9 x10 x11 x12 x13 x14 x15 x16 x17 x18 x19 x20) (View.ld x9 r0_9) (View.ld x10 r0_10))) (k0_pay80 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay230 x0 x1 x2 x3 x4 x5 x6 x7 x8 x9 x10 x11 x12 x13 x14 x15 x16 x17 x18 x19 x20) (k0_pay76 (k0_pay226 x0 x1 x2 x3 x4 x5 x6 x7 x8 x9 x10 x11 x12 x13 x14 x15 x16 x17 x18 x19 x20)) (k0_pay77 (k0_pay227 x0 x1 x2 x3 x4 x5 x6 x7 x8 x9 x10 x11 x12 x13 x14 x15 x16 x17 x18 x19 x20)) (k0_pay78 (k0_pay228 x0 x1 x2 x3 x4 x5 x6 x7 x8 x9 x10 x11 x12 x13 x14 x15 x16 x17 x18 x19 x20)) (k0_pay79 (k0_pay229 x0 x1 x2 x3 x4 x5 x6 x7 x8 x9 x10 x11 x12 x13 x14 x15 x16 x17 x18 x19 x20))) (k0_pay86 (k0_pay222 x0 x1 x2 x3 x4 x5 x6 x7 x8 x9 x10 x11 x12 x13 x14 x15 x16 x17 x18 x19 x20) (k0_pay223 x0 x1 x2 x3 x4 x5 x6 x7 x8 x9 x10 x11 x12 x13 x14 x15 x16 x17 x18 x19 x20) (k0_pay224 x0 x1 x2 x3 x4 x5 x6 x7 x8 x9 x10 x11 x12 x13 x14 x15 x16 x17 x18 x19 x20) (k0_pay81 (k0_pay226 x0 x1 x2 x3 x4 x5 x6 x7 x8 x9 x10 x11 x12 x13 x14 x15 x16 x17 x18 x19 x20)) (k0_pay82 (k0_pay227 x0 x1 x2 x3 x4 x5 x6 x7 x8 x9 x10 x11 x12 x13 x14 x15 x16 x17 x18 x19 x20)) (k0_pay83 (k0_pay228 x0 x1 x2 x3 x4 x5 x6 x7 x8 x9 x10 x11 x12 x13 x14 x15 x16 x17 x18 x19 x20)) (k0_pay84 (k0_pay229 x0 x1 x2 x3 x4 x5 x6 x7 x8 x9 x10 x11 x12 x13 x14 x15 x16 x17 x18 x19 x20)) (k0_pay85 (k0_pay230 x0 x1 x2 x3 x4 x5 x6 x7 x8 x9 x10 x11 x12 x13 x14 x15 x16 x17 x18 x19 x20)) (constant S128x128 .f32 0x00000000#32)) (k0_pay87 (k0_pay226 x0 x1 x2 x3 x4 x5 x6 x7 x8 x9 x10 x11 x12 x13 x14 x15 x16 x17 x18 x19 x20)) (k0_pay88 (k0_pay228 x0 x1 x2 x3 x4 x5 x6 x7 x8 x9 x10 x11 x12 x13 x14 x15 x16 x17 x18 x19 x20)) (k0_pay89 (k0_pay229 x0 x1 x2 x3 x4 x5 x6 x7 x8 x9 x10 x11 x12 x13 x14 x15 x16 x17 x18 x19 x20)) (k0_pay90 (k0_pay230 x0 x1 x2 x3 x4 x5 x6 x7 x8 x9 x10 x11 x12 x13 x14 x15 x16 x17 x18 x19 x20)) (k0_pay91 (k0_pay226 x0 x1 x2 x3 x4 x5 x6 x7 x8 x9 x10 x11 x12 x13 x14 x15 x16 x17 x18 x19 x20) (k0_pay227 x0 x1 x2 x3 x4 x5 x6 x7 x8 x9 x10 x11 x12 x13 x14 x15 x16 x17 x18 x19 x20)) (constant S50x128 .f32 0x00000000#32) (View.ld x17 r0_9)) (View.ld x18 r0_10) (View.ld x19 r0_12) (View.ld x20 r0_13)
    = oneGraph (View.ld x0 r0_0) (View.ld x1 r0_1) (View.ld x2 r0_2) (View.ld x3 r0_5) (View.ld x4 r0_6) (View.ld x5 r0_3) (View.ld x6 r0_4) (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0) (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10) (View.ld x19 r0_12) (View.ld x20 r0_13) := by
  rw [finish0, val01, key01, query01, radial01, mask01, pass00, move00, skip00, val00, key00, query00, radial00, mask00, start0]; rfl

/-- Graph 1: the features before the layers. -/
theorem start1 :
    (k0_pay235 x0 x1 x2 x3 x4 x5 x6 x7 x8 x9 x10 x11 x12 x13 x14 x15 x16 x17 x18 x19 x20)
    = startV (latentV (View.ld x0 r0_10) (View.ld x5 r0_3) (View.ld x6 r0_4)) (latentDistV (View.ld x1 r0_15) (View.ld x2 r0_2)) := by
  unfold k0_pay235 k0_pay234 k0_pay233 k0_pay232 k0_pay231; rfl

/-- Graph 1, layer 0: the neighbours. -/
theorem mask10 :
    (k0_pay241 x0 x1 x2 x3 x4 x5 x6 x7 x8 x9 x10 x11 x12 x13 x14 x15 x16 x17 x18 x19 x20)
    = maskV (View.ld x1 r0_15) := by
  unfold k0_pay241 k0_pay240 k0_pay239 k0_pay238; rfl

/-- Graph 1, layer 0: the neighbours as floats. -/
theorem maskf10 :
    (k0_pay242 x0 x1 x2 x3 x4 x5 x6 x7 x8 x9 x10 x11 x12 x13 x14 x15 x16 x17 x18 x19 x20)
    = oneHotV (k0_pay241 x0 x1 x2 x3 x4 x5 x6 x7 x8 x9 x10 x11 x12 x13 x14 x15 x16 x17 x18 x19 x20) := by
  unfold k0_pay242 k0_pay241 k0_pay240 k0_pay239 k0_pay238; rfl

/-- Graph 1, layer 0: the radial features. -/
theorem radial10 :
    (k0_pay243 x0 x1 x2 x3 x4 x5 x6 x7 x8 x9 x10 x11 x12 x13 x14 x15 x16 x17 x18 x19 x20)
    = radialV (View.ld x1 r0_15) (View.ld x3 r0_5) (View.ld x4 r0_6) := by
  unfold k0_pay243 k0_pay236 k0_pay237 k0_pay239 k0_pay240; rfl

/-- Graph 1, layer 0: the queries. -/
theorem query10 :
    (k0_pay244 x0 x1 x2 x3 x4 x5 x6 x7 x8 x9 x10 x11 x12 x13 x14 x15 x16 x17 x18 x19 x20)
    = denseV (k0_pay235 x0 x1 x2 x3 x4 x5 x6 x7 x8 x9 x10 x11 x12 x13 x14 x15 x16 x17 x18 x19 x20) (View.ld x7 r0_7) (View.ld x8 r0_0) := by
  unfold k0_pay244; rfl

/-- Graph 1, layer 0: the keys. -/
theorem key10 :
    (k0_pay245 x0 x1 x2 x3 x4 x5 x6 x7 x8 x9 x10 x11 x12 x13 x14 x15 x16 x17 x18 x19 x20)
    = denseV (k0_pay235 x0 x1 x2 x3 x4 x5 x6 x7 x8 x9 x10 x11 x12 x13 x14 x15 x16 x17 x18 x19 x20) (View.ld x9 r0_7) (View.ld x10 r0_0) := by
  unfold k0_pay245; rfl

/-- Graph 1, layer 0: the values. -/
theorem val10 :
    (k0_pay248 x0 x1 x2 x3 x4 x5 x6 x7 x8 x9 x10 x11 x12 x13 x14 x15 x16 x17 x18 x19 x20)
    = denseV (k0_pay235 x0 x1 x2 x3 x4 x5 x6 x7 x8 x9 x10 x11 x12 x13 x14 x15 x16 x17 x18 x19 x20) (View.ld x11 r0_7) (View.ld x12 r0_0) := by
  unfold k0_pay248 k0_pay247 k0_pay246; rfl

/-- Graph 1, layer 0: the skip connection. -/
theorem skip10 :
    (k0_pay249 x0 x1 x2 x3 x4 x5 x6 x7 x8 x9 x10 x11 x12 x13 x14 x15 x16 x17 x18 x19 x20)
    = denseV (k0_pay235 x0 x1 x2 x3 x4 x5 x6 x7 x8 x9 x10 x11 x12 x13 x14 x15 x16 x17 x18 x19 x20) (View.ld x15 r0_7) (View.ld x16 r0_0) := by
  unfold k0_pay249; rfl

/-- Graph 1, layer 0: the first head. -/
theorem head10_0 :
    (k0_pay252 x0 x1 x2 x3 x4 x5 x6 x7 x8 x9 x10 x11 x12 x13 x14 x15 x16 x17 x18 x19 x20)
    = headV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (extractStridedSlice S128x32 ![0, 0] (k0_pay244 x0 x1 x2 x3 x4 x5 x6 x7 x8 x9 x10 x11 x12 x13 x14 x15 x16 x17 x18 x19 x20) slices_S128x128_o0_0_S128x32) (extractStridedSlice S128x32 ![0, 0] (k0_pay245 x0 x1 x2 x3 x4 x5 x6 x7 x8 x9 x10 x11 x12 x13 x14 x15 x16 x17 x18 x19 x20) slices_S128x128_o0_0_S128x32) (extractStridedSlice S128x32 ![0, 0] (k0_pay248 x0 x1 x2 x3 x4 x5 x6 x7 x8 x9 x10 x11 x12 x13 x14 x15 x16 x17 x18 x19 x20) slices_S128x128_o0_0_S128x32) (extractStridedSlice S50x32 ![0, 0] (k0_pay250 x0 x1 x2 x3 x4 x5 x6 x7 x8 x9 x10 x11 x12 x13 x14 x15 x16 x17 x18 x19 x20) slices_S50x128_o0_0_S50x32) (extractStridedSlice S1x32 ![0, 0] (k0_pay251 x0 x1 x2 x3 x4 x5 x6 x7 x8 x9 x10 x11 x12 x13 x14 x15 x16 x17 x18 x19 x20) slices_S1x128_o0_0_S1x32) := by
  unfold k0_pay252 k0_pay251 k0_pay250 k0_pay248; rw [maskf10]; rfl

/-- Graph 1, layer 0: the second head. -/
theorem head10_1 :
    (k0_pay253 x0 x1 x2 x3 x4 x5 x6 x7 x8 x9 x10 x11 x12 x13 x14 x15 x16 x17 x18 x19 x20)
    = headV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (extractStridedSlice S128x32 ![0, 32] (k0_pay244 x0 x1 x2 x3 x4 x5 x6 x7 x8 x9 x10 x11 x12 x13 x14 x15 x16 x17 x18 x19 x20) slices_S128x128_o0_32_S128x32) (extractStridedSlice S128x32 ![0, 32] (k0_pay245 x0 x1 x2 x3 x4 x5 x6 x7 x8 x9 x10 x11 x12 x13 x14 x15 x16 x17 x18 x19 x20) slices_S128x128_o0_32_S128x32) (extractStridedSlice S128x32 ![0, 32] (k0_pay248 x0 x1 x2 x3 x4 x5 x6 x7 x8 x9 x10 x11 x12 x13 x14 x15 x16 x17 x18 x19 x20) slices_S128x128_o0_32_S128x32) (extractStridedSlice S50x32 ![0, 32] (k0_pay250 x0 x1 x2 x3 x4 x5 x6 x7 x8 x9 x10 x11 x12 x13 x14 x15 x16 x17 x18 x19 x20) slices_S50x128_o0_32_S50x32) (extractStridedSlice S1x32 ![0, 32] (k0_pay251 x0 x1 x2 x3 x4 x5 x6 x7 x8 x9 x10 x11 x12 x13 x14 x15 x16 x17 x18 x19 x20) slices_S1x128_o0_32_S1x32) := by
  unfold k0_pay253; rw [maskf10]; rfl

/-- Graph 1, layer 0: the third head. -/
theorem head10_2 :
    (k0_pay254 x0 x1 x2 x3 x4 x5 x6 x7 x8 x9 x10 x11 x12 x13 x14 x15 x16 x17 x18 x19 x20)
    = headV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (extractStridedSlice S128x32 ![0, 64] (k0_pay244 x0 x1 x2 x3 x4 x5 x6 x7 x8 x9 x10 x11 x12 x13 x14 x15 x16 x17 x18 x19 x20) slices_S128x128_o0_64_S128x32) (extractStridedSlice S128x32 ![0, 64] (k0_pay245 x0 x1 x2 x3 x4 x5 x6 x7 x8 x9 x10 x11 x12 x13 x14 x15 x16 x17 x18 x19 x20) slices_S128x128_o0_64_S128x32) (extractStridedSlice S128x32 ![0, 64] (k0_pay248 x0 x1 x2 x3 x4 x5 x6 x7 x8 x9 x10 x11 x12 x13 x14 x15 x16 x17 x18 x19 x20) slices_S128x128_o0_64_S128x32) (extractStridedSlice S50x32 ![0, 64] (k0_pay250 x0 x1 x2 x3 x4 x5 x6 x7 x8 x9 x10 x11 x12 x13 x14 x15 x16 x17 x18 x19 x20) slices_S50x128_o0_64_S50x32) (extractStridedSlice S1x32 ![0, 64] (k0_pay251 x0 x1 x2 x3 x4 x5 x6 x7 x8 x9 x10 x11 x12 x13 x14 x15 x16 x17 x18 x19 x20) slices_S1x128_o0_64_S1x32) := by
  unfold k0_pay254; rw [maskf10]; rfl

/-- Graph 1, layer 0: the moved positions. -/
theorem move10 :
    (k0_pay259 x0 x1 x2 x3 x4 x5 x6 x7 x8 x9 x10 x11 x12 x13 x14 x15 x16 x17 x18 x19 x20)
    = moveV (View.ld x1 r0_15) (featV (k0_pay235 x0 x1 x2 x3 x4 x5 x6 x7 x8 x9 x10 x11 x12 x13 x14 x15 x16 x17 x18 x19 x20) (attnV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (k0_pay244 x0 x1 x2 x3 x4 x5 x6 x7 x8 x9 x10 x11 x12 x13 x14 x15 x16 x17 x18 x19 x20) (k0_pay245 x0 x1 x2 x3 x4 x5 x6 x7 x8 x9 x10 x11 x12 x13 x14 x15 x16 x17 x18 x19 x20) (k0_pay248 x0 x1 x2 x3 x4 x5 x6 x7 x8 x9 x10 x11 x12 x13 x14 x15 x16 x17 x18 x19 x20) (View.ld x13 r0_8) (View.ld x14 r0_0)) (k0_pay249 x0 x1 x2 x3 x4 x5 x6 x7 x8 x9 x10 x11 x12 x13 x14 x15 x16 x17 x18 x19 x20) (View.ld x17 r0_7) (View.ld x18 r0_0)) := by
  unfold k0_pay259; rw [head10_0, head10_1, head10_2]; unfold k0_pay255 k0_pay256 k0_pay257 k0_pay258 k0_pay250 k0_pay251; rw [maskf10]; rfl

/-- Graph 1, layer 0: the features handed on. -/
theorem pass10 :
    (k0_pay260 x0 x1 x2 x3 x4 x5 x6 x7 x8 x9 x10 x11 x12 x13 x14 x15 x16 x17 x18 x19 x20)
    = passV (featV (k0_pay235 x0 x1 x2 x3 x4 x5 x6 x7 x8 x9 x10 x11 x12 x13 x14 x15 x16 x17 x18 x19 x20) (attnV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (k0_pay244 x0 x1 x2 x3 x4 x5 x6 x7 x8 x9 x10 x11 x12 x13 x14 x15 x16 x17 x18 x19 x20) (k0_pay245 x0 x1 x2 x3 x4 x5 x6 x7 x8 x9 x10 x11 x12 x13 x14 x15 x16 x17 x18 x19 x20) (k0_pay248 x0 x1 x2 x3 x4 x5 x6 x7 x8 x9 x10 x11 x12 x13 x14 x15 x16 x17 x18 x19 x20) (View.ld x13 r0_8) (View.ld x14 r0_0)) (k0_pay249 x0 x1 x2 x3 x4 x5 x6 x7 x8 x9 x10 x11 x12 x13 x14 x15 x16 x17 x18 x19 x20) (View.ld x17 r0_7) (View.ld x18 r0_0)) (moveV (View.ld x1 r0_15) (featV (k0_pay235 x0 x1 x2 x3 x4 x5 x6 x7 x8 x9 x10 x11 x12 x13 x14 x15 x16 x17 x18 x19 x20) (attnV (k0_pay241 x0 x1 x2 x3 x4 x5 x6 x7 x8 x9 x10 x11 x12 x13 x14 x15 x16 x17 x18 x19 x20) (k0_pay243 x0 x1 x2 x3 x4 x5 x6 x7 x8 x9 x10 x11 x12 x13 x14 x15 x16 x17 x18 x19 x20) (k0_pay244 x0 x1 x2 x3 x4 x5 x6 x7 x8 x9 x10 x11 x12 x13 x14 x15 x16 x17 x18 x19 x20) (k0_pay245 x0 x1 x2 x3 x4 x5 x6 x7 x8 x9 x10 x11 x12 x13 x14 x15 x16 x17 x18 x19 x20) (k0_pay248 x0 x1 x2 x3 x4 x5 x6 x7 x8 x9 x10 x11 x12 x13 x14 x15 x16 x17 x18 x19 x20) (View.ld x13 r0_8) (View.ld x14 r0_0)) (k0_pay249 x0 x1 x2 x3 x4 x5 x6 x7 x8 x9 x10 x11 x12 x13 x14 x15 x16 x17 x18 x19 x20) (View.ld x17 r0_7) (View.ld x18 r0_0))) := by
  unfold k0_pay260; rw [head10_0, head10_1, head10_2]; unfold k0_pay255 k0_pay256 k0_pay257 k0_pay258 k0_pay250 k0_pay251; rw [maskf10]; rfl

/-- Graph 1, layer 1: the neighbours. -/
theorem mask11 :
    (k0_pay264 x0 x1 x2 x3 x4 x5 x6 x7 x8 x9 x10 x11 x12 x13 x14 x15 x16 x17 x18 x19 x20)
    = maskV (k0_pay259 x0 x1 x2 x3 x4 x5 x6 x7 x8 x9 x10 x11 x12 x13 x14 x15 x16 x17 x18 x19 x20) := by
  unfold k0_pay264 k0_pay238 k0_pay261 k0_pay262 k0_pay263 k0_pay259; rfl

/-- Graph 1, layer 1: the neighbours as floats. -/
theorem maskf11 :
    (k0_pay265 x0 x1 x2 x3 x4 x5 x6 x7 x8 x9 x10 x11 x12 x13 x14 x15 x16 x17 x18 x19 x20)
    = oneHotV (k0_pay264 x0 x1 x2 x3 x4 x5 x6 x7 x8 x9 x10 x11 x12 x13 x14 x15 x16 x17 x18 x19 x20) := by
  unfold k0_pay265 k0_pay264; rfl

/-- Graph 1, layer 1: the radial features. -/
theorem radial11 :
    (k0_pay266 x0 x1 x2 x3 x4 x5 x6 x7 x8 x9 x10 x11 x12 x13 x14 x15 x16 x17 x18 x19 x20)
    = radialV (k0_pay259 x0 x1 x2 x3 x4 x5 x6 x7 x8 x9 x10 x11 x12 x13 x14 x15 x16 x17 x18 x19 x20) (View.ld x3 r0_5) (View.ld x4 r0_6) := by
  unfold k0_pay266 k0_pay261 k0_pay262 k0_pay263 k0_pay259 k0_pay236 k0_pay237; rfl

/-- Graph 1, layer 1: the queries. -/
theorem query11 :
    (k0_pay267 x0 x1 x2 x3 x4 x5 x6 x7 x8 x9 x10 x11 x12 x13 x14 x15 x16 x17 x18 x19 x20)
    = denseV (k0_pay260 x0 x1 x2 x3 x4 x5 x6 x7 x8 x9 x10 x11 x12 x13 x14 x15 x16 x17 x18 x19 x20) (View.ld x7 r0_9) (View.ld x8 r0_10) := by
  unfold k0_pay267; rfl

/-- Graph 1, layer 1: the keys. -/
theorem key11 :
    (k0_pay269 x0 x1 x2 x3 x4 x5 x6 x7 x8 x9 x10 x11 x12 x13 x14 x15 x16 x17 x18 x19 x20)
    = denseV (k0_pay260 x0 x1 x2 x3 x4 x5 x6 x7 x8 x9 x10 x11 x12 x13 x14 x15 x16 x17 x18 x19 x20) (View.ld x9 r0_9) (View.ld x10 r0_10) := by
  unfold k0_pay269 k0_pay268; rfl

/-- Graph 1, layer 1: the values. -/
theorem val11 :
    (k0_pay270 x0 x1 x2 x3 x4 x5 x6 x7 x8 x9 x10 x11 x12 x13 x14 x15 x16 x17 x18 x19 x20)
    = denseV (k0_pay260 x0 x1 x2 x3 x4 x5 x6 x7 x8 x9 x10 x11 x12 x13 x14 x15 x16 x17 x18 x19 x20) (View.ld x11 r0_9) (View.ld x12 r0_10) := by
  unfold k0_pay270; rfl

/-- Graph 1, layer 1: the skip connection. -/
theorem skip11 :
    (k0_pay271 x0 x1 x2 x3 x4 x5 x6 x7 x8 x9 x10 x11 x12 x13 x14 x15 x16 x17 x18 x19 x20)
    = denseV (k0_pay260 x0 x1 x2 x3 x4 x5 x6 x7 x8 x9 x10 x11 x12 x13 x14 x15 x16 x17 x18 x19 x20) (View.ld x15 r0_9) (View.ld x16 r0_10) := by
  unfold k0_pay271; rfl

/-- Graph 1, layer 1: the first head. -/
theorem head11_0 :
    (k0_pay274 x0 x1 x2 x3 x4 x5 x6 x7 x8 x9 x10 x11 x12 x13 x14 x15 x16 x17 x18 x19 x20)
    = headV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (extractStridedSlice S128x32 ![0, 0] (k0_pay267 x0 x1 x2 x3 x4 x5 x6 x7 x8 x9 x10 x11 x12 x13 x14 x15 x16 x17 x18 x19 x20) slices_S128x128_o0_0_S128x32) (extractStridedSlice S128x32 ![0, 0] (k0_pay269 x0 x1 x2 x3 x4 x5 x6 x7 x8 x9 x10 x11 x12 x13 x14 x15 x16 x17 x18 x19 x20) slices_S128x128_o0_0_S128x32) (extractStridedSlice S128x32 ![0, 0] (k0_pay270 x0 x1 x2 x3 x4 x5 x6 x7 x8 x9 x10 x11 x12 x13 x14 x15 x16 x17 x18 x19 x20) slices_S128x128_o0_0_S128x32) (extractStridedSlice S50x32 ![0, 0] (k0_pay272 x0 x1 x2 x3 x4 x5 x6 x7 x8 x9 x10 x11 x12 x13 x14 x15 x16 x17 x18 x19 x20) slices_S50x128_o0_0_S50x32) (extractStridedSlice S1x32 ![0, 0] (k0_pay273 x0 x1 x2 x3 x4 x5 x6 x7 x8 x9 x10 x11 x12 x13 x14 x15 x16 x17 x18 x19 x20) slices_S1x128_o0_0_S1x32) := by
  unfold k0_pay274 k0_pay273 k0_pay272 k0_pay270 k0_pay269; rw [maskf11]; rfl

/-- Graph 1, layer 1: the second head. -/
theorem head11_1 :
    (k0_pay275 x0 x1 x2 x3 x4 x5 x6 x7 x8 x9 x10 x11 x12 x13 x14 x15 x16 x17 x18 x19 x20)
    = headV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (extractStridedSlice S128x32 ![0, 32] (k0_pay267 x0 x1 x2 x3 x4 x5 x6 x7 x8 x9 x10 x11 x12 x13 x14 x15 x16 x17 x18 x19 x20) slices_S128x128_o0_32_S128x32) (extractStridedSlice S128x32 ![0, 32] (k0_pay269 x0 x1 x2 x3 x4 x5 x6 x7 x8 x9 x10 x11 x12 x13 x14 x15 x16 x17 x18 x19 x20) slices_S128x128_o0_32_S128x32) (extractStridedSlice S128x32 ![0, 32] (k0_pay270 x0 x1 x2 x3 x4 x5 x6 x7 x8 x9 x10 x11 x12 x13 x14 x15 x16 x17 x18 x19 x20) slices_S128x128_o0_32_S128x32) (extractStridedSlice S50x32 ![0, 32] (k0_pay272 x0 x1 x2 x3 x4 x5 x6 x7 x8 x9 x10 x11 x12 x13 x14 x15 x16 x17 x18 x19 x20) slices_S50x128_o0_32_S50x32) (extractStridedSlice S1x32 ![0, 32] (k0_pay273 x0 x1 x2 x3 x4 x5 x6 x7 x8 x9 x10 x11 x12 x13 x14 x15 x16 x17 x18 x19 x20) slices_S1x128_o0_32_S1x32) := by
  unfold k0_pay275; rw [maskf11]; rfl

/-- Graph 1, layer 1: the third head. -/
theorem head11_2 :
    (k0_pay276 x0 x1 x2 x3 x4 x5 x6 x7 x8 x9 x10 x11 x12 x13 x14 x15 x16 x17 x18 x19 x20)
    = headV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (extractStridedSlice S128x32 ![0, 64] (k0_pay267 x0 x1 x2 x3 x4 x5 x6 x7 x8 x9 x10 x11 x12 x13 x14 x15 x16 x17 x18 x19 x20) slices_S128x128_o0_64_S128x32) (extractStridedSlice S128x32 ![0, 64] (k0_pay269 x0 x1 x2 x3 x4 x5 x6 x7 x8 x9 x10 x11 x12 x13 x14 x15 x16 x17 x18 x19 x20) slices_S128x128_o0_64_S128x32) (extractStridedSlice S128x32 ![0, 64] (k0_pay270 x0 x1 x2 x3 x4 x5 x6 x7 x8 x9 x10 x11 x12 x13 x14 x15 x16 x17 x18 x19 x20) slices_S128x128_o0_64_S128x32) (extractStridedSlice S50x32 ![0, 64] (k0_pay272 x0 x1 x2 x3 x4 x5 x6 x7 x8 x9 x10 x11 x12 x13 x14 x15 x16 x17 x18 x19 x20) slices_S50x128_o0_64_S50x32) (extractStridedSlice S1x32 ![0, 64] (k0_pay273 x0 x1 x2 x3 x4 x5 x6 x7 x8 x9 x10 x11 x12 x13 x14 x15 x16 x17 x18 x19 x20) slices_S1x128_o0_64_S1x32) := by
  unfold k0_pay276; rw [maskf11]; rfl

/-- Graph 1: the rows stored. -/
theorem finish1 :
    k0_pay1 (k0_pay259 x0 x1 x2 x3 x4 x5 x6 x7 x8 x9 x10 x11 x12 x13 x14 x15 x16 x17 x18 x19 x20) (k0_pay260 x0 x1 x2 x3 x4 x5 x6 x7 x8 x9 x10 x11 x12 x13 x14 x15 x16 x17 x18 x19 x20) (k0_pay192 (k0_pay265 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay271 x0 x1 x2 x3 x4 x5 x6 x7 x8 x9 x10 x11 x12 x13 x14 x15 x16 x17 x18 x19 x20) (k0_pay274 x0 x1 x2 x3 x4 x5 x6 x7 x8 x9 x10 x11 x12 x13 x14 x15 x16 x17 x18 x19 x20) (k0_pay275 x0 x1 x2 x3 x4 x5 x6 x7 x8 x9 x10 x11 x12 x13 x14 x15 x16 x17 x18 x19 x20) (k0_pay276 x0 x1 x2 x3 x4 x5 x6 x7 x8 x9 x10 x11 x12 x13 x14 x15 x16 x17 x18 x19 x20) (k0_pay277 x0 x1 x2 x3 x4 x5 x6 x7 x8 x9 x10 x11 x12 x13 x14 x15 x16 x17 x18 x19 x20) (k0_pay278 x0 x1 x2 x3 x4 x5 x6 x7 x8 x9 x10 x11 x12 x13 x14 x15 x16 x17 x18 x19 x20) (k0_pay279 x0 x1 x2 x3 x4 x5 x6 x7 x8 x9 x10 x11 x12 x13 x14 x15 x16 x17 x18 x19 x20) (k0_pay280 x0 x1 x2 x3 x4 x5 x6 x7 x8 x9 x10 x11 x12 x13 x14 x15 x16 x17 x18 x19 x20) (View.ld x17 r0_9) (View.ld x18 r0_10)) (k0_pay193 (k0_pay265 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay271 x0 x1 x2 x3 x4 x5 x6 x7 x8 x9 x10 x11 x12 x13 x14 x15 x16 x17 x18 x19 x20) (k0_pay274 x0 x1 x2 x3 x4 x5 x6 x7 x8 x9 x10 x11 x12 x13 x14 x15 x16 x17 x18 x19 x20) (k0_pay275 x0 x1 x2 x3 x4 x5 x6 x7 x8 x9 x10 x11 x12 x13 x14 x15 x16 x17 x18 x19 x20) (k0_pay276 x0 x1 x2 x3 x4 x5 x6 x7 x8 x9 x10 x11 x12 x13 x14 x15 x16 x17 x18 x19 x20) (k0_pay277 x0 x1 x2 x3 x4 x5 x6 x7 x8 x9 x10 x11 x12 x13 x14 x15 x16 x17 x18 x19 x20) (k0_pay278 x0 x1 x2 x3 x4 x5 x6 x7 x8 x9 x10 x11 x12 x13 x14 x15 x16 x17 x18 x19 x20) (k0_pay279 x0 x1 x2 x3 x4 x5 x6 x7 x8 x9 x10 x11 x12 x13 x14 x15 x16 x17 x18 x19 x20) (k0_pay280 x0 x1 x2 x3 x4 x5 x6 x7 x8 x9 x10 x11 x12 x13 x14 x15 x16 x17 x18 x19 x20) (View.ld x17 r0_9) (View.ld x18 r0_10)) (Scalar.ofBits .f32 0x3F800000#32) (View.ld x19 r0_12) (View.ld x20 r0_13)
    = finishV (moveV (k0_pay259 x0 x1 x2 x3 x4 x5 x6 x7 x8 x9 x10 x11 x12 x13 x14 x15 x16 x17 x18 x19 x20) (featV (k0_pay260 x0 x1 x2 x3 x4 x5 x6 x7 x8 x9 x10 x11 x12 x13 x14 x15 x16 x17 x18 x19 x20) (attnV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay267 x0 x1 x2 x3 x4 x5 x6 x7 x8 x9 x10 x11 x12 x13 x14 x15 x16 x17 x18 x19 x20) (k0_pay269 x0 x1 x2 x3 x4 x5 x6 x7 x8 x9 x10 x11 x12 x13 x14 x15 x16 x17 x18 x19 x20) (k0_pay270 x0 x1 x2 x3 x4 x5 x6 x7 x8 x9 x10 x11 x12 x13 x14 x15 x16 x17 x18 x19 x20) (View.ld x13 r0_11) (View.ld x14 r0_10)) (k0_pay271 x0 x1 x2 x3 x4 x5 x6 x7 x8 x9 x10 x11 x12 x13 x14 x15 x16 x17 x18 x19 x20) (View.ld x17 r0_9) (View.ld x18 r0_10))) (passV (featV (k0_pay260 x0 x1 x2 x3 x4 x5 x6 x7 x8 x9 x10 x11 x12 x13 x14 x15 x16 x17 x18 x19 x20) (attnV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay267 x0 x1 x2 x3 x4 x5 x6 x7 x8 x9 x10 x11 x12 x13 x14 x15 x16 x17 x18 x19 x20) (k0_pay269 x0 x1 x2 x3 x4 x5 x6 x7 x8 x9 x10 x11 x12 x13 x14 x15 x16 x17 x18 x19 x20) (k0_pay270 x0 x1 x2 x3 x4 x5 x6 x7 x8 x9 x10 x11 x12 x13 x14 x15 x16 x17 x18 x19 x20) (View.ld x13 r0_11) (View.ld x14 r0_10)) (k0_pay271 x0 x1 x2 x3 x4 x5 x6 x7 x8 x9 x10 x11 x12 x13 x14 x15 x16 x17 x18 x19 x20) (View.ld x17 r0_9) (View.ld x18 r0_10)) (moveV (k0_pay259 x0 x1 x2 x3 x4 x5 x6 x7 x8 x9 x10 x11 x12 x13 x14 x15 x16 x17 x18 x19 x20) (featV (k0_pay260 x0 x1 x2 x3 x4 x5 x6 x7 x8 x9 x10 x11 x12 x13 x14 x15 x16 x17 x18 x19 x20) (attnV (k0_pay264 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay267 x0 x1 x2 x3 x4 x5 x6 x7 x8 x9 x10 x11 x12 x13 x14 x15 x16 x17 x18 x19 x20) (k0_pay269 x0 x1 x2 x3 x4 x5 x6 x7 x8 x9 x10 x11 x12 x13 x14 x15 x16 x17 x18 x19 x20) (k0_pay270 x0 x1 x2 x3 x4 x5 x6 x7 x8 x9 x10 x11 x12 x13 x14 x15 x16 x17 x18 x19 x20) (View.ld x13 r0_11) (View.ld x14 r0_10)) (k0_pay271 x0 x1 x2 x3 x4 x5 x6 x7 x8 x9 x10 x11 x12 x13 x14 x15 x16 x17 x18 x19 x20) (View.ld x17 r0_9) (View.ld x18 r0_10)))) (View.ld x19 r0_12) (View.ld x20 r0_13) := by
  rw [head11_0, head11_1, head11_2, maskf11]; unfold k0_pay277 k0_pay278 k0_pay279 k0_pay280 k0_pay272 k0_pay273; rfl

/-- Graph 1: the rows stored are `oneGraph` of the loads. -/
theorem stored1 :
    k0_pay1 (k0_pay259 x0 x1 x2 x3 x4 x5 x6 x7 x8 x9 x10 x11 x12 x13 x14 x15 x16 x17 x18 x19 x20) (k0_pay260 x0 x1 x2 x3 x4 x5 x6 x7 x8 x9 x10 x11 x12 x13 x14 x15 x16 x17 x18 x19 x20) (k0_pay192 (k0_pay265 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay271 x0 x1 x2 x3 x4 x5 x6 x7 x8 x9 x10 x11 x12 x13 x14 x15 x16 x17 x18 x19 x20) (k0_pay274 x0 x1 x2 x3 x4 x5 x6 x7 x8 x9 x10 x11 x12 x13 x14 x15 x16 x17 x18 x19 x20) (k0_pay275 x0 x1 x2 x3 x4 x5 x6 x7 x8 x9 x10 x11 x12 x13 x14 x15 x16 x17 x18 x19 x20) (k0_pay276 x0 x1 x2 x3 x4 x5 x6 x7 x8 x9 x10 x11 x12 x13 x14 x15 x16 x17 x18 x19 x20) (k0_pay277 x0 x1 x2 x3 x4 x5 x6 x7 x8 x9 x10 x11 x12 x13 x14 x15 x16 x17 x18 x19 x20) (k0_pay278 x0 x1 x2 x3 x4 x5 x6 x7 x8 x9 x10 x11 x12 x13 x14 x15 x16 x17 x18 x19 x20) (k0_pay279 x0 x1 x2 x3 x4 x5 x6 x7 x8 x9 x10 x11 x12 x13 x14 x15 x16 x17 x18 x19 x20) (k0_pay280 x0 x1 x2 x3 x4 x5 x6 x7 x8 x9 x10 x11 x12 x13 x14 x15 x16 x17 x18 x19 x20) (View.ld x17 r0_9) (View.ld x18 r0_10)) (k0_pay193 (k0_pay265 x0 x1 x2 x3 x4 x5 x6 x7 x8 x9 x10 x11 x12 x13 x14 x15 x16 x17 x18 x19 x20) (k0_pay266 x0 x1 x2 x3 x4 x5 x6 x7 x8 x9 x10 x11 x12 x13 x14 x15 x16 x17 x18 x19 x20) (k0_pay271 x0 x1 x2 x3 x4 x5 x6 x7 x8 x9 x10 x11 x12 x13 x14 x15 x16 x17 x18 x19 x20) (k0_pay274 x0 x1 x2 x3 x4 x5 x6 x7 x8 x9 x10 x11 x12 x13 x14 x15 x16 x17 x18 x19 x20) (k0_pay275 x0 x1 x2 x3 x4 x5 x6 x7 x8 x9 x10 x11 x12 x13 x14 x15 x16 x17 x18 x19 x20) (k0_pay276 x0 x1 x2 x3 x4 x5 x6 x7 x8 x9 x10 x11 x12 x13 x14 x15 x16 x17 x18 x19 x20) (k0_pay277 x0 x1 x2 x3 x4 x5 x6 x7 x8 x9 x10 x11 x12 x13 x14 x15 x16 x17 x18 x19 x20) (k0_pay278 x0 x1 x2 x3 x4 x5 x6 x7 x8 x9 x10 x11 x12 x13 x14 x15 x16 x17 x18 x19 x20) (k0_pay279 x0 x1 x2 x3 x4 x5 x6 x7 x8 x9 x10 x11 x12 x13 x14 x15 x16 x17 x18 x19 x20) (k0_pay280 x0 x1 x2 x3 x4 x5 x6 x7 x8 x9 x10 x11 x12 x13 x14 x15 x16 x17 x18 x19 x20) (View.ld x17 r0_9) (View.ld x18 r0_10)) (Scalar.ofBits .f32 0x3F800000#32) (View.ld x19 r0_12) (View.ld x20 r0_13)
    = oneGraph (View.ld x0 r0_10) (View.ld x1 r0_15) (View.ld x2 r0_2) (View.ld x3 r0_5) (View.ld x4 r0_6) (View.ld x5 r0_3) (View.ld x6 r0_4) (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0) (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10) (View.ld x19 r0_12) (View.ld x20 r0_13) := by
  rw [finish1, val11, key11, query11, radial11, mask11, skip11, pass10, move10, skip10, val10, key10, query10, radial10, mask10, start1]; rfl

/-- The body's block: `oneGraph` of each graph's loads, one above the other. -/
theorem out_eq :
    out0_21 x0 x1 x2 x3 x4 x5 x6 x7 x8 x9 x10 x11 x12 x13 x14 x15 x16 x17 x18 x19 x20
    = View.canon [⟨r0_16, oneGraph (View.ld x0 r0_10) (View.ld x1 r0_15) (View.ld x2 r0_2) (View.ld x3 r0_5) (View.ld x4 r0_6) (View.ld x5 r0_3) (View.ld x6 r0_4) (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0) (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10) (View.ld x19 r0_12) (View.ld x20 r0_13)⟩,
      ⟨r0_14, oneGraph (View.ld x0 r0_0) (View.ld x1 r0_1) (View.ld x2 r0_2) (View.ld x3 r0_5) (View.ld x4 r0_6) (View.ld x5 r0_3) (View.ld x6 r0_4) (View.ld x7 r0_7) (View.ld x8 r0_0) (View.ld x9 r0_7) (View.ld x10 r0_0) (View.ld x11 r0_7) (View.ld x12 r0_0) (View.ld x13 r0_8) (View.ld x14 r0_0) (View.ld x15 r0_7) (View.ld x16 r0_0) (View.ld x17 r0_7) (View.ld x18 r0_0) (View.ld x7 r0_9) (View.ld x8 r0_10) (View.ld x9 r0_9) (View.ld x10 r0_10) (View.ld x11 r0_9) (View.ld x12 r0_10) (View.ld x13 r0_11) (View.ld x14 r0_10) (View.ld x15 r0_9) (View.ld x16 r0_10) (View.ld x17 r0_9) (View.ld x18 r0_10) (View.ld x19 r0_12) (View.ld x20 r0_13)⟩] := by
  unfold out0_21; rw [stored0, stored1]

end Cert.KernelIdeal.Stages
-- ==== Proof.Final.lean ====
/- The kernel's result array: the reference's computation of the arguments. -/
module

public import proofs.«01_k».proof.Proof.Graph
public import proofs.«01_k».proof.Proof.Blocks
public import proofs.«01_k».proof.Proof.StagedRead
public import proofs.«01_k».proof.Proof.Body

@[expose] public section

set_option maxRecDepth 16384

noncomputable section

namespace Cert.KernelIdeal.Final

open Cert.KernelIdeal Cert.KernelIdeal.Gen Cert.KernelIdeal.Blocks Cert.KernelIdeal.Staged Cert.KernelIdeal.Graph Cert.KernelIdeal.Loads
open Idealize.ShloMosaic Idealize.ShloMosaic.TcCoe Idealize.SL.Sem
open Idealize.ShloMosaic.Pipeline (Dat)

variable (m : (ℓ : Loc nD τ sig) → Buf (Elt Ideal) ℓ) (c : Dev nD)

/-- Argument 0. -/
abbrev arg0 : FVec Ideal S16x128 .f32 := m ((c : Thread nD τ).loc main_arg0)
/-- Argument 1. -/
abbrev arg1 : FVec Ideal S2048x3 .f32 := m ((c : Thread nD τ).loc main_arg1)
/-- Argument 4. -/
abbrev arg4 : FVec Ideal S128x3456 .f32 := m ((c : Thread nD τ).loc main_arg4)
/-- Argument 5. -/
abbrev arg5 : FVec Ideal S3456 .f32 := m ((c : Thread nD τ).loc main_arg5)
/-- Argument 6. -/
abbrev arg6 : FVec Ideal S2x128x128 .f32 := m ((c : Thread nD τ).loc main_arg6)
/-- Argument 7. -/
abbrev arg7 : FVec Ideal S2x128 .f32 := m ((c : Thread nD τ).loc main_arg7)
/-- Argument 8. -/
abbrev arg8 : FVec Ideal S2x128x128 .f32 := m ((c : Thread nD τ).loc main_arg8)
/-- Argument 9. -/
abbrev arg9 : FVec Ideal S2x128 .f32 := m ((c : Thread nD τ).loc main_arg9)
/-- Argument 10. -/
abbrev arg10 : FVec Ideal S2x128x128 .f32 := m ((c : Thread nD τ).loc main_arg10)
/-- Argument 11. -/
abbrev arg11 : FVec Ideal S2x128 .f32 := m ((c : Thread nD τ).loc main_arg11)
/-- Argument 12. -/
abbrev arg12 : FVec Ideal S2x50x128 .f32 := m ((c : Thread nD τ).loc main_arg12)
/-- Argument 13. -/
abbrev arg13 : FVec Ideal S2x128 .f32 := m ((c : Thread nD τ).loc main_arg13)
/-- Argument 14. -/
abbrev arg14 : FVec Ideal S2x128x128 .f32 := m ((c : Thread nD τ).loc main_arg14)
/-- Argument 15. -/
abbrev arg15 : FVec Ideal S2x128 .f32 := m ((c : Thread nD τ).loc main_arg15)
/-- Argument 16. -/
abbrev arg16 : FVec Ideal S2x128x128 .f32 := m ((c : Thread nD τ).loc main_arg16)
/-- Argument 17. -/
abbrev arg17 : FVec Ideal S2x128 .f32 := m ((c : Thread nD τ).loc main_arg17)
/-- Argument 18. -/
abbrev arg18 : FVec Ideal S128x10 .f32 := m ((c : Thread nD τ).loc main_arg18)
/-- Argument 19. -/
abbrev arg19 : FVec Ideal S10 .f32 := m ((c : Thread nD τ).loc main_arg19)

/-- The reference's computation of the kernel's arguments. -/
abbrev whole : FVec Ideal S2048x13 .f32 := ReferenceIdeal.Stages.wholeR (arg0 m c) (arg1 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c)

/-- What the whole blocks of a point hold. -/
theorem held (t : Fin cfg0.N) : Held (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) where
  h2 := fun n k => (congrFun (block2 m c t) _).trans (congrFun (lat_array m c) _)
  h3 := fun r => (congrFun (block3 m c t) _).trans ((congrFun (offs_array m c) _).trans (column_read _ r))
  h4 := (congrFun (block4 m c t) _).trans ((congrFun (coef_array m c) _).trans (point_read _))
  h5 := fun k n d => (congrFun (block5 m c t) _).trans ((congrFun (wup_array m c) _).trans (columns_read _ k n d))
  h6 := fun n d => (congrFun (block6 m c t) _).trans ((congrFun (bup_array m c) _).trans (biases_read _ n d))
  h7 := (block7 m c t).trans (V_main_arg6 m c)
  h8 := fun l j => (congrFun (block8 m c t) _).trans ((congrFun (bias_array7 m c) _).trans (plane_read _ l j))
  h9 := (block9 m c t).trans (V_main_arg8 m c)
  h10 := fun l j => (congrFun (block10 m c t) _).trans ((congrFun (bias_array9 m c) _).trans (plane_read _ l j))
  h11 := (block11 m c t).trans (V_main_arg10 m c)
  h12 := fun l j => (congrFun (block12 m c t) _).trans ((congrFun (bias_array11 m c) _).trans (plane_read _ l j))
  h13 := (block13 m c t).trans (V_main_arg12 m c)
  h14 := fun l j => (congrFun (block14 m c t) _).trans ((congrFun (bias_array13 m c) _).trans (plane_read _ l j))
  h15 := (block15 m c t).trans (V_main_arg14 m c)
  h16 := fun l j => (congrFun (block16 m c t) _).trans ((congrFun (bias_array15 m c) _).trans (plane_read _ l j))
  h17 := (block17 m c t).trans (V_main_arg16 m c)
  h18 := fun l j => (congrFun (block18 m c t) _).trans ((congrFun (bias_array17 m c) _).trans (plane_read _ l j))
  h19 := (block19 m c t).trans (V_main_arg18 m c)
  h20 := fun j => (congrFun (block20 m c t) _).trans ((congrFun (bo_array m c) _).trans (last_read _ j))

/-- Row `x` of the first graph's encoding and positions at a point. -/
theorem enc_first (t : Fin cfg0.N) (k : Fin 128) : (View.ld (iblk m c 0 t) r0_0 : FVec Ideal S1x1x128 .f32) (ix3 0 0 k)
    = arg0 m c (ix2 ⟨t.val * 2, by have := points t; omega⟩ k) :=
  (ld0 _ k).trans ((enc_block m c t 0 k).trans ((congrFun (enc_array m c) _).trans (row_read _ _ k)))

theorem enc_second (t : Fin cfg0.N) (k : Fin 128) : (View.ld (iblk m c 0 t) r0_10 : FVec Ideal S1x1x128 .f32) (ix3 0 0 k)
    = arg0 m c (ix2 ⟨t.val * 2 + 1, by have := points t; omega⟩ k) :=
  (ld10 _ k).trans ((enc_block m c t 1 k).trans ((congrFun (enc_array m c) _).trans (row_read _ _ k)))

theorem pos_first (t : Fin cfg0.N) (i : Fin 128) (k : Fin 3) : (View.ld (iblk m c 1 t) r0_1 : FVec Ideal S128x3 .f32) (ix2 i k)
    = arg1 m c (ix2 ⟨t.val * 2 * 128 + i, by have := points t; omega⟩ k) :=
  (ld1 _ i k).trans ((pos_block m c t _ k).trans ((congrFun (V_main_arg1 m c) _).trans (congrArg (arg1 m c) (by blk_ext []))))

theorem pos_second (t : Fin cfg0.N) (i : Fin 128) (k : Fin 3) : (View.ld (iblk m c 1 t) r0_15 : FVec Ideal S128x3 .f32) (ix2 i k)
    = arg1 m c (ix2 ⟨(t.val * 2 + 1) * 128 + i, by have := points t; omega⟩ k) :=
  (ld15 _ i k).trans ((pos_block m c t _ k).trans ((congrFun (V_main_arg1 m c) _).trans (congrArg (arg1 m c) (by blk_ext []))))

variable (R : Reals (arg0 m c) (arg1 m c) (arg4 m c) (arg5 m c) (arg6 m c) (arg7 m c) (arg10 m c) (arg11 m c) (arg12 m c) (arg13 m c) (arg14 m c) (arg15 m c) (arg16 m c) (arg17 m c))

include R in
/-- What a point leaves at an index of its block is the reference's result where the index sits in the array. -/
theorem point (t : Fin cfg0.N) (y : S256x13.Idx) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = whole m c (((cfg0.win 21).blk t).view.emb y) := by
  have ht := points t
  rw [Stages.out_eq]
  canon_tiles x h
  · have e : x = ix2 (⟨x 0, x0_lt⟩ : Fin 128) (⟨x 1, x1_lt⟩ : Fin 13) := by blk_ext []
    refine (congrArg _ e).trans ((graph R (held m c t) ⟨t.val * 2 + 1, by omega⟩ _ _ (enc_second m c t) (pos_second m c t) _ _).trans (congrArg (whole m c) ?_))
    blk_ext [idx t]
  · have e : x = ix2 (⟨x 0, x0_lt⟩ : Fin 128) (⟨x 1, x1_lt⟩ : Fin 13) := by blk_ext []
    refine (congrArg _ e).trans ((graph R (held m c t) ⟨t.val * 2, by omega⟩ _ _ (enc_first m c t) (pos_first m c t) _ _).trans (congrArg (whole m c) ?_))
    blk_ext [idx t]

include R in
/-- The result array after the run. -/
theorem final : (dats m 0 c).arrAt 21 (cfgs 0).N = whole m c := by
  refine (dats m 0 c).arrAt_eq_of_covers 21 _ (by decide +kernel) fun t _ y => ?_
  blk_simp
  rw [after0_21]
  exact point m c R t y

end Cert.KernelIdeal.Final

end
-- ==== Proof.Finite.lean ====
/- What the precondition says: every element of the fourteen arguments it names is a real. -/
module

public import proofs.«01_k».proof.Defs
public import proofs.«01_k».proof.Proof.Gen.Pre_finite_layers
public import proofs.«01_k».proof.Proof.Gen.KernelIdeal
public import proofs.«01_k».proof.Proof.Final
public import Idealize.ShloMosaic.Lib.Pointwise

@[expose] public section

set_option maxRecDepth 16384

noncomputable section

namespace Cert.Finite

open Idealize.ShloMosaic Idealize.ShloMosaic.TcCoe Idealize.SL.Sem Cert.Math

/-- An extended real of absolute value below `⊤` is a real. -/
theorem real_of_abs (x : EReal) (h : max x (-x) < ⊤) : IsReal x := by
  refine isReal_of_ne (fun e => ?_) (fun e => ?_)
  · rw [e] at h; simp at h
  · rw [e] at h; simp at h

/-- An array whose absolute values all lie below the pattern of `⊤` holds reals. -/
theorem real_of_below {s : Shape} (hb : Pre_finite_layers.S_.BroadcastsInDim s (![] : Fin 0 → Fin s.rank)) (x : FVec Ideal s .f32)
    (h : cmpf .olt (Host.absf x) (broadcastInDim s ![] hb (constant Pre_finite_layers.S_ .f32 0x7F800000#32)) = fun _ => 1#1) (i : s.Idx) :
    IsReal (x i) := by
  have e := congrFun h i
  have e' : (Ideal.cmp .olt (max (x i) (-(x i))) (Ideal.ofBits .f32 0x7F800000#32)) = 1#1 := e
  rw [Math.top] at e'
  refine real_of_abs _ ?_
  by_contra hn
  have z : Ideal.cmp .olt (max (x i) (-(x i))) ⊤ = BitVec.ofBool (decide (max (x i) (-(x i)) < ⊤)) := rfl
  rw [z, decide_eq_false hn] at e'
  exact absurd e' (by decide)

/-- Under the precondition the fourteen arguments hold reals. -/
theorem reals (m : (ℓ : Loc KernelIdeal.nD KernelIdeal.τ KernelIdeal.sig) → Buf (Elt Ideal) ℓ)
    (h : Pre_KernelIdeal_finite_layers m) (c : Dev KernelIdeal.nD) :
    KernelIdeal.Graph.Reals (KernelIdeal.Final.arg0 m c) (KernelIdeal.Final.arg1 m c) (KernelIdeal.Final.arg4 m c) (KernelIdeal.Final.arg5 m c) (KernelIdeal.Final.arg6 m c) (KernelIdeal.Final.arg7 m c) (KernelIdeal.Final.arg10 m c) (KernelIdeal.Final.arg11 m c) (KernelIdeal.Final.arg12 m c) (KernelIdeal.Final.arg13 m c) (KernelIdeal.Final.arg14 m c) (KernelIdeal.Final.arg15 m c) (KernelIdeal.Final.arg16 m c) (KernelIdeal.Final.arg17 m c) where
  r0 := real_of_below _ _ (h c).1
  r1 := real_of_below _ _ (h c).2.1
  r4 := real_of_below _ _ (h c).2.2.1
  r5 := real_of_below _ _ (h c).2.2.2.1
  r6 := real_of_below _ _ (h c).2.2.2.2.1
  r7 := real_of_below _ _ (h c).2.2.2.2.2.1
  r10 := real_of_below _ _ (h c).2.2.2.2.2.2.1
  r11 := real_of_below _ _ (h c).2.2.2.2.2.2.2.1
  r12 := real_of_below _ _ (h c).2.2.2.2.2.2.2.2.1
  r13 := real_of_below _ _ (h c).2.2.2.2.2.2.2.2.2.1
  r14 := real_of_below _ _ (h c).2.2.2.2.2.2.2.2.2.2.1
  r15 := real_of_below _ _ (h c).2.2.2.2.2.2.2.2.2.2.2.1
  r16 := real_of_below _ _ (h c).2.2.2.2.2.2.2.2.2.2.2.2.1
  r17 := real_of_below _ _ (h c).2.2.2.2.2.2.2.2.2.2.2.2.2

end Cert.Finite

end
-- ==== Proof.RefValue.lean ====
/- The reference's result, in terms of the steps of `RefStages`: every value its run names is the step that
   makes it of the values before it. -/
module

public import proofs.«01_k».proof.Proof.Gen.ReferenceIdeal.Run
public import proofs.«01_k».proof.Proof.RefStages

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (V0 : Valuation τ sig (Elt F))

/-- The negated squared distances to the latent points. -/
theorem dist_eq :
    (res_main_v27 V0)
    = negDistR (V0 (Proc.devRef .tc main_arg1)) := by
  unfold res_main_v27 res_main_v24; rfl

/-- The inverse distances of the nearest three. -/
theorem inv_eq :
    (res_main_v32 V0)
    = invR (topR (res_main_v27 V0)).1 := by
  unfold res_main_v32; rfl

/-- The interpolated features. -/
theorem mean_eq :
    (res_main_v58 V0)
    = meanR (res_main_v32 V0) (nearFeatR (geluR bcast_S_S16x27x128 (res_main_v5 V0)) (topR (res_main_v27 V0)).2) := by
  unfold res_main_v58 res_main_v38 res_main_indices; rfl

/-- The projected encodings. -/
theorem up_eq :
    (res_main_v5 V0)
    = upR (V0 (Proc.devRef .tc main_arg0)) (V0 (Proc.devRef .tc main_arg4)) (V0 (Proc.devRef .tc main_arg5)) := by
  unfold res_main_v5; rfl

/-- The features before the layers. -/
theorem start_eq :
    (res_main_v120 V0)
    = startR (V0 (Proc.devRef .tc main_arg0)) (V0 (Proc.devRef .tc main_arg1)) (V0 (Proc.devRef .tc main_arg4)) (V0 (Proc.devRef .tc main_arg5)) := by
  unfold res_main_v120; rw [mean_eq, inv_eq, up_eq, dist_eq]; rfl

/-- The positions by graph. -/
theorem pos_eq :
    (res_main_v85 V0)
    = posR (V0 (Proc.devRef .tc main_arg1)) := by
  unfold res_main_v85; rfl

/-- The radial offsets. -/
theorem offsets_eq :
    (res_main_v72 V0)
    = offsetsR := by
  unfold res_main_v72 res_main_call0_v6 res_main_call0_v0 res_main_call0_v1; rfl

/-- The coefficient of the radial features. -/
theorem coef_eq :
    (res_main_v79 V0)
    = coefR := by
  unfold res_main_v79 res_main_v77; rw [offsets_eq]; rfl

/-- The diagonal. -/
theorem eye_eq :
    (res_main_v84 V0)
    = eyeR := by
  unfold res_main_v84; rfl

/-- The distances of the layer. -/
theorem between0 :
    (res_main_v95 V0)
    = distR (res_main_v85 V0) := by
  unfold res_main_v95 res_main_v90; rfl

/-- Its neighbours. -/
theorem mask0 :
    (res_main_v101 V0)
    = maskR (res_main_v85 V0) := by
  unfold res_main_v101; rw [between0, eye_eq]; rfl

/-- Its edge features. -/
theorem edge0 :
    (res_main_v119 V0)
    = edgeR (radialR (res_main_v85 V0)) (radR0 (V0 (Proc.devRef .tc main_arg12))) (vecR0 (V0 (Proc.devRef .tc main_arg13))) := by
  unfold res_main_v119 res_main_v106; rw [between0, coef_eq, offsets_eq]; rfl

/-- Its queries. -/
theorem query0 :
    (res_main_v129 V0)
    = headsR (res_main_v120 V0) (matR0 (V0 (Proc.devRef .tc main_arg6))) (vecR0 (V0 (Proc.devRef .tc main_arg7))) := by
  unfold res_main_v129; rfl

/-- Its logits. -/
theorem logit0 :
    (res_main_v158 V0)
    = logitR (res_main_v101 V0) (res_main_v129 V0) (headsR (res_main_v120 V0) (matR0 (V0 (Proc.devRef .tc main_arg8))) (vecR0 (V0 (Proc.devRef .tc main_arg9)))) (res_main_v119 V0) := by
  unfold res_main_v158; rfl

/-- Its exponentials. -/
theorem expo0 :
    (res_main_v167 V0)
    = expoR (res_main_v101 V0) (res_main_v158 V0) := by
  unfold res_main_v167; rfl

/-- Its attention weights. -/
theorem alpha0 :
    (res_main_v173 V0)
    = alphaR (res_main_v167 V0) := by
  unfold res_main_v173; rfl

/-- Its features. -/
theorem feat0 :
    (res_main_v209 V0)
    = featR (res_main_v120 V0) (gatherR (res_main_v173 V0) (headsR (res_main_v120 V0) (matR0 (V0 (Proc.devRef .tc main_arg10))) (vecR0 (V0 (Proc.devRef .tc main_arg11)))) (res_main_v119 V0)) (matR0 (V0 (Proc.devRef .tc main_arg14))) (vecR0 (V0 (Proc.devRef .tc main_arg15))) (matR0 (V0 (Proc.devRef .tc main_arg16))) (vecR0 (V0 (Proc.devRef .tc main_arg17))) := by
  unfold res_main_v209 res_main_v195; rfl

/-- The layer whole. -/
theorem layer0 :
    (res_main_v209 V0)
    = layerR (res_main_v85 V0) (res_main_v120 V0) (matR0 (V0 (Proc.devRef .tc main_arg6))) (vecR0 (V0 (Proc.devRef .tc main_arg7))) (matR0 (V0 (Proc.devRef .tc main_arg8))) (vecR0 (V0 (Proc.devRef .tc main_arg9))) (matR0 (V0 (Proc.devRef .tc main_arg10))) (vecR0 (V0 (Proc.devRef .tc main_arg11))) (radR0 (V0 (Proc.devRef .tc main_arg12))) (vecR0 (V0 (Proc.devRef .tc main_arg13))) (matR0 (V0 (Proc.devRef .tc main_arg14))) (vecR0 (V0 (Proc.devRef .tc main_arg15))) (matR0 (V0 (Proc.devRef .tc main_arg16))) (vecR0 (V0 (Proc.devRef .tc main_arg17))) := by
  rw [feat0, alpha0, expo0, logit0, query0, edge0, mask0]; rfl

/-- The distances of the layer. -/
theorem between1 :
    (res_main_v226 V0)
    = distR (res_main_v216 V0) := by
  unfold res_main_v226 res_main_v221; rfl

/-- Its neighbours. -/
theorem mask1 :
    (res_main_v232 V0)
    = maskR (res_main_v216 V0) := by
  unfold res_main_v232; rw [between1, eye_eq]; rfl

/-- Its edge features. -/
theorem edge1 :
    (res_main_v250 V0)
    = edgeR (radialR (res_main_v216 V0)) (radR1 (V0 (Proc.devRef .tc main_arg12))) (vecR1 (V0 (Proc.devRef .tc main_arg13))) := by
  unfold res_main_v250 res_main_v237; rw [between1, coef_eq, offsets_eq]; rfl

/-- Its queries. -/
theorem query1 :
    (res_main_v260 V0)
    = headsR (res_main_v251 V0) (matR1 (V0 (Proc.devRef .tc main_arg6))) (vecR1 (V0 (Proc.devRef .tc main_arg7))) := by
  unfold res_main_v260; rfl

/-- Its logits. -/
theorem logit1 :
    (res_main_v289 V0)
    = logitR (res_main_v232 V0) (res_main_v260 V0) (headsR (res_main_v251 V0) (matR1 (V0 (Proc.devRef .tc main_arg8))) (vecR1 (V0 (Proc.devRef .tc main_arg9)))) (res_main_v250 V0) := by
  unfold res_main_v289; rfl

/-- Its exponentials. -/
theorem expo1 :
    (res_main_v298 V0)
    = expoR (res_main_v232 V0) (res_main_v289 V0) := by
  unfold res_main_v298; rfl

/-- Its attention weights. -/
theorem alpha1 :
    (res_main_v304 V0)
    = alphaR (res_main_v298 V0) := by
  unfold res_main_v304; rfl

/-- Its features. -/
theorem feat1 :
    (res_main_v340 V0)
    = featR (res_main_v251 V0) (gatherR (res_main_v304 V0) (headsR (res_main_v251 V0) (matR1 (V0 (Proc.devRef .tc main_arg10))) (vecR1 (V0 (Proc.devRef .tc main_arg11)))) (res_main_v250 V0)) (matR1 (V0 (Proc.devRef .tc main_arg14))) (vecR1 (V0 (Proc.devRef .tc main_arg15))) (matR1 (V0 (Proc.devRef .tc main_arg16))) (vecR1 (V0 (Proc.devRef .tc main_arg17))) := by
  unfold res_main_v340 res_main_v326; rfl

/-- The layer whole. -/
theorem layer1 :
    (res_main_v340 V0)
    = layerR (res_main_v216 V0) (res_main_v251 V0) (matR1 (V0 (Proc.devRef .tc main_arg6))) (vecR1 (V0 (Proc.devRef .tc main_arg7))) (matR1 (V0 (Proc.devRef .tc main_arg8))) (vecR1 (V0 (Proc.devRef .tc main_arg9))) (matR1 (V0 (Proc.devRef .tc main_arg10))) (vecR1 (V0 (Proc.devRef .tc main_arg11))) (radR1 (V0 (Proc.devRef .tc main_arg12))) (vecR1 (V0 (Proc.devRef .tc main_arg13))) (matR1 (V0 (Proc.devRef .tc main_arg14))) (vecR1 (V0 (Proc.devRef .tc main_arg15))) (matR1 (V0 (Proc.devRef .tc main_arg16))) (vecR1 (V0 (Proc.devRef .tc main_arg17))) := by
  rw [feat1, alpha1, expo1, logit1, query1, edge1, mask1]; rfl

/-- Layer 0 of the arguments. -/
theorem first_eq :
    (res_main_v209 V0)
    = first (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  rw [layer0, pos_eq, start_eq]; rfl

/-- The positions layer 1 works on. -/
theorem pos1_eq :
    (res_main_v216 V0)
    = rePosR (moveR (res_main_v85 V0) (res_main_v209 V0)) := by
  unfold res_main_v216 res_main_v211; rfl

/-- The features layer 1 works on. -/
theorem feat1_eq :
    (res_main_v251 V0)
    = reFeatR (passR (res_main_v209 V0) (moveR (res_main_v85 V0) (res_main_v209 V0))) := by
  unfold res_main_v251 res_main_v211; rfl

/-- Layer 1. -/
theorem second_eq :
    (res_main_v340 V0)
    = second (res_main_v85 V0) (res_main_v209 V0) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  rw [layer1, pos1_eq, feat1_eq]; rfl

/-- The last positions. -/
theorem end_eq :
    (res_main_v342 V0)
    = moveR (res_main_v216 V0) (res_main_v340 V0) := by
  unfold res_main_v342; rfl

/-- The result. -/
theorem whole_eq :
    finishR (res_main_v342 V0) (passR (res_main_v340 V0) (res_main_v342 V0)) (V0 (Proc.devRef .tc main_arg18)) (V0 (Proc.devRef .tc main_arg19))
    = wholeR (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  rw [end_eq, second_eq, pos1_eq, first_eq, pos_eq]; rfl

end Cert.ReferenceIdeal.Stages
-- ==== Proof.Algebraic.lean ====
/- The two programs' results are equal: the kernel's array is the reference's computation of the same arguments. -/
module

public import proofs.«01_k».proof.Proof.Finite
public import proofs.«01_k».proof.Proof.RefValue

@[expose] public section

set_option maxRecDepth 16384

noncomputable section

namespace Cert.Algebraic

open Idealize.ShloMosaic Idealize.ShloMosaic.TcCoe Idealize.SL.Sem

theorem algebraic : Cert.algebraic_KernelIdeal_ReferenceIdeal_pre_finite_layers := by
  intro m ρ m' ρ' hpre hagree
  refine ⟨_, KernelIdeal.Value.run_blocks (F := Ideal) m ρ, ?_⟩
  refine (θ_run ReferenceIdeal.defs _ _).mono (fun _ h c => ⟨(h c).1.trans ?_, (h c).2⟩) (ReferenceIdeal.Value.run (F := Ideal) m' ρ')
  refine Eq.trans ?_ (KernelIdeal.Final.final m c (Finite.reals m hpre c)).symm
  refine (ReferenceIdeal.Stages.whole_eq (StableHlo.launchContents m' c)).trans ?_
  obtain ⟨e0, e1, e2, e3, e4, e5, e6, e7, e8, e9, e10, e11, e12, e13, e14, e15, e16, e17, e18, e19⟩ := hagree c
  change ReferenceIdeal.Stages.wholeR (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12)) (m' ((c.tc : Thread ReferenceIdeal.nD ReferenceIdeal.τ).loc ReferenceIdeal.main_arg13)) (m' ((c.tc : Thread ReferenceIdeal.nD ReferenceIdeal.τ).loc ReferenceIdeal.main_arg14)) (m' ((c.tc : Thread ReferenceIdeal.nD ReferenceIdeal.τ).loc ReferenceIdeal.main_arg15)) (m' ((c.tc : Thread ReferenceIdeal.nD ReferenceIdeal.τ).loc ReferenceIdeal.main_arg16)) (m' ((c.tc : Thread ReferenceIdeal.nD ReferenceIdeal.τ).loc ReferenceIdeal.main_arg17)) (m' ((c.tc : Thread ReferenceIdeal.nD ReferenceIdeal.τ).loc ReferenceIdeal.main_arg18)) (m' ((c.tc : Thread ReferenceIdeal.nD ReferenceIdeal.τ).loc ReferenceIdeal.main_arg19)) = _
  rw [e0, e1, e4, e5, e6, e7, e8, e9, e10, e11, e12, e13, e14, e15, e16, e17, e18, e19]

end Cert.Algebraic

end
-- ==== Proof.lean ====
/- The certificate's claims, assembled. -/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.Pre_finite_layers
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_layers.Gen.facts,
    Frames.kernel, Frames.ideal, Frames.ideal_finite, Frames.reference, Frames.reference_finite, Frames.preserves, Algebraic.algebraic⟩

end Cert.Proof

end
